-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x1024 : Shape := ⟨2, ![4096, 1024]⟩
abbrev S1024x1024 : Shape := ⟨2, ![1024, 1024]⟩
abbrev S1024 : Shape := ⟨1, ![1024]⟩
abbrev S1024x256 : Shape := ⟨2, ![1024, 256]⟩
abbrev S256 : Shape := ⟨1, ![256]⟩
abbrev S256x1024 : Shape := ⟨2, ![256, 1024]⟩
abbrev S_ : Shape := ⟨0, ![]⟩

class Facts : Prop where
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S1024 : S_.BroadcastsInDim S1024 (![] : Fin 0 → Fin S1024.rank)
  bcast_S_S1024x256 : S_.BroadcastsInDim S1024x256 (![] : Fin 0 → Fin S1024x256.rank)
  bcast_S_S256 : S_.BroadcastsInDim S256 (![] : Fin 0 → Fin S256.rank)

variable [Facts]

def fn_part1 {F : FTy → Type} [FloatOps F] (main_arg6 : FVec F S256 .f32) (main_arg13 : FVec F S1024x256 .f32) (main_v2 : IVec S4096x1024 1) (main_v5 : IVec S1024x1024 1) (main_v8 : IVec S1024 1) (main_v11 : IVec S1024x1024 1) (main_v14 : IVec S1024 1) (main_v17 : IVec S1024x256 1) : IVec S4096x1024 1 × IVec S1024x1024 1 × IVec S1024 1 × IVec S1024x1024 1 × IVec S1024 1 × IVec S1024x256 1 × IVec S256 1 × IVec S1024x256 1 :=
  let main_v18 : FVec F S256 .f32 := Host.absf main_arg6
  let main_cst_5 : FVec F S_ .f32 := constant S_ .f32 0x7F800000#32
  let main_v19 : FVec F S256 .f32 := broadcastInDim S256 ![] bcast_S_S256 main_cst_5
  let main_v20 : IVec S256 1 := cmpf .olt main_v18 main_v19
  let main_v21 : FVec F S1024x256 .f32 := Host.absf main_arg13
  let main_cst_6 : FVec F S_ .f32 := constant S_ .f32 0x7F800000#32
  let main_v22 : FVec F S1024x256 .f32 := broadcastInDim S1024x256 ![] bcast_S_S1024x256 main_cst_6
  let main_v23 : IVec S1024x256 1 := cmpf .olt main_v21 main_v22
  (main_v2, main_v5, main_v8, main_v11, main_v14, main_v17, main_v20, main_v23)

def fn {F : FTy → Type} [FloatOps F] (main_arg0 : FVec F S4096x1024 .f32) (main_arg1 : FVec F S1024x1024 .f32) (main_arg2 : FVec F S1024 .f32) (main_arg3 : FVec F S1024x1024 .f32) (main_arg4 : FVec F S1024 .f32) (main_arg5 : FVec F S1024x256 .f32) (main_arg6 : FVec F S256 .f32) (main_arg7 : FVec F S256x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x256 .f32) : IVec S4096x1024 1 × IVec S1024x1024 1 × IVec S1024 1 × IVec S1024x1024 1 × IVec S1024 1 × IVec S1024x256 1 × IVec S256 1 × IVec S1024x256 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024x256 .f32 := Host.absf main_arg5
  let main_cst_4 : FVec F S_ .f32 := constant S_ .f32 0x7F800000#32
  let main_v16 : FVec F S1024x256 .f32 := broadcastInDim S1024x256 ![] bcast_S_S1024x256 main_cst_4
  let main_v17 : IVec S1024x256 1 := cmpf .olt main_v15 main_v16
  fn_part1 (F := F) main_arg6 main_arg13 main_v2 main_v5 main_v8 main_v11 main_v14 main_v17
-- ==== Kernel.lean ====
abbrev S4096x1024 : Shape := ⟨2, ![4096, 1024]⟩
abbrev S1024x1024 : Shape := ⟨2, ![1024, 1024]⟩
abbrev S1024 : Shape := ⟨1, ![1024]⟩
abbrev S1024x256 : Shape := ⟨2, ![1024, 256]⟩
abbrev S256 : Shape := ⟨1, ![256]⟩
abbrev S256x1024 : Shape := ⟨2, ![256, 1024]⟩
abbrev S1x1024 : Shape := ⟨2, ![1, 1024]⟩
abbrev S1x256 : Shape := ⟨2, ![1, 256]⟩
abbrev S4096x256 : Shape := ⟨2, ![4096, 256]⟩
abbrev S512x1024 : Shape := ⟨2, ![512, 1024]⟩
abbrev S512x256 : Shape := ⟨2, ![512, 256]⟩
abbrev S_ : Shape := ⟨0, ![]⟩
abbrev S512 : Shape := ⟨1, ![512]⟩
abbrev S512x1 : Shape := ⟨2, ![512, 1]⟩

abbrev nBuf : Space → Nat
  | .hbm => 23
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x256, .f32⟩
  | .hbm, ⟨6, _⟩ => ⟨S256, .f32⟩
  | .hbm, ⟨7, _⟩ => ⟨S256x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x256, .f32⟩
  | .hbm, ⟨14, _⟩ => ⟨S1x1024, .f32⟩
  | .hbm, ⟨15, _⟩ => ⟨S1x1024, .f32⟩
  | .hbm, ⟨16, _⟩ => ⟨S1x256, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S4096x1024, .f32⟩
  | .hbm, ⟨21, _⟩ => ⟨S4096x256, .f32⟩
  | .hbm, ⟨22, _⟩ => ⟨S4096x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x256, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S1024x1024, .bf16⟩
  | .local _ .vmem, ⟨15, _⟩ => ⟨S1024x1024, .bf16⟩
  | .local _ .vmem, ⟨16, _⟩ => ⟨S1024x256, .bf16⟩
  | .local _ .vmem, ⟨17, _⟩ => ⟨S256x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x256, .bf16⟩
  | .local _ .vmem, ⟨21, _⟩ => ⟨S1024x256, .bf16⟩
  | .local _ .vmem, ⟨22, _⟩ => ⟨S1x1024, .f32⟩
  | .local _ .vmem, ⟨23, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev main_v6_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1024x256 : Shape := ⟨2, ![1024, 256]⟩
abbrev S256 : Shape := ⟨1, ![256]⟩
abbrev S256x1024 : Shape := ⟨2, ![256, 1024]⟩
abbrev S1x1024 : Shape := ⟨2, ![1, 1024]⟩
abbrev S_ : Shape := ⟨0, ![]⟩
abbrev S4096x256 : Shape := ⟨2, ![4096, 256]⟩
abbrev S1x256 : Shape := ⟨2, ![1, 256]⟩
abbrev S4096 : Shape := ⟨1, ![4096]⟩
abbrev S4096x1 : Shape := ⟨2, ![4096, 1]⟩
abbrev S1 : Shape := ⟨1, ![1]⟩
abbrev S1x1 : Shape := ⟨2, ![1, 1]⟩

abbrev nBuf : Space → Nat
  | .hbm => 120
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x256, .f32⟩
  | .hbm, ⟨6, _⟩ => ⟨S256, .f32⟩
  | .hbm, ⟨7, _⟩ => ⟨S256x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x256, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x256, .f32⟩
  | .hbm, ⟨29, _⟩ => ⟨S1x256, .f32⟩
  | .hbm, ⟨30, _⟩ => ⟨S4096x256, .f32⟩
  | .hbm, ⟨31, _⟩ => ⟨S4096x256, .f32⟩
  | .hbm, ⟨32, _⟩ => ⟨S1024x256, .f32⟩
  | .hbm, ⟨33, _⟩ => ⟨S_, .f32⟩
  | .hbm, ⟨34, _⟩ => ⟨S1024, .f32⟩
  | .hbm, ⟨35, _⟩ => ⟨S4096x256, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S256x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .i32⟩
  | .hbm, ⟨50, _⟩ => ⟨S_, .f32⟩
  | .hbm, ⟨51, _⟩ => ⟨S_, .i32⟩
  | .hbm, ⟨52, _⟩ => ⟨S4096, .f32⟩
  | .hbm, ⟨53, _⟩ => ⟨S4096, .i32⟩
  | .hbm, ⟨54, _⟩ => ⟨S_, .i32⟩
  | .hbm, ⟨55, _⟩ => ⟨S4096, .i32⟩
  | .hbm, ⟨56, _⟩ => ⟨S4096, .i1⟩
  | .hbm, ⟨57, _⟩ => ⟨S_, .i32⟩
  | .hbm, ⟨58, _⟩ => ⟨S4096, .i32⟩
  | .hbm, ⟨59, _⟩ => ⟨S4096, .i32⟩
  | .hbm, ⟨60, _⟩ => ⟨S4096, .i32⟩
  | .hbm, ⟨61, _⟩ => ⟨S4096x1, .i32⟩
  | .hbm, ⟨62, _⟩ => ⟨S1, .i32⟩
  | .hbm, ⟨63, _⟩ => ⟨S_, .i32⟩
  | .hbm, ⟨64, _⟩ => ⟨S4096x1, .i32⟩
  | .hbm, ⟨65, _⟩ => ⟨S4096x1, .i1⟩
  | .hbm, ⟨66, _⟩ => ⟨S1x1, .i32⟩
  | .hbm, ⟨67, _⟩ => ⟨S4096x1, .i32⟩
  | .hbm, ⟨68, _⟩ => ⟨S4096x1, .i1⟩
  | .hbm, ⟨69, _⟩ => ⟨S4096x1, .i1⟩
  | .hbm, ⟨70, _⟩ => ⟨S_, .i1⟩
  | .hbm, ⟨71, _⟩ => ⟨S4096, .i1⟩
  | .hbm, ⟨72, _⟩ => ⟨S4096x256, .f32⟩
  | .hbm, ⟨73, _⟩ => ⟨S4096x256, .i1⟩
  | .hbm, ⟨74, _⟩ => ⟨S_, .f32⟩
  | .hbm, ⟨75, _⟩ => ⟨S4096x256, .f32⟩
  | .hbm, ⟨76, _⟩ => ⟨S4096x256, .f32⟩
  | .hbm, ⟨77, _⟩ => ⟨S4096x256, .f32⟩
  | .hbm, ⟨78, _⟩ => ⟨S4096x256, .f32⟩
  | .hbm, ⟨79, _⟩ => ⟨S_, .i32⟩
  | .hbm, ⟨80, _⟩ => ⟨S4096, .i32⟩
  | .hbm, ⟨81, _⟩ => ⟨S4096, .i1⟩
  | .hbm, ⟨82, _⟩ => ⟨S_, .i32⟩
  | .hbm, ⟨83, _⟩ => ⟨S4096, .i32⟩
  | .hbm, ⟨84, _⟩ => ⟨S4096, .i32⟩
  | .hbm, ⟨85, _⟩ => ⟨S4096, .i32⟩
  | .hbm, ⟨86, _⟩ => ⟨S4096x1, .i32⟩
  | .hbm, ⟨87, _⟩ => ⟨S1, .i32⟩
  | .hbm, ⟨88, _⟩ => ⟨S_, .i32⟩
  | .hbm, ⟨89, _⟩ => ⟨S4096x1, .i32⟩
  | .hbm, ⟨90, _⟩ => ⟨S4096x1, .i1⟩
  | .hbm, ⟨91, _⟩ => ⟨S1x1, .i32⟩
  | .hbm, ⟨92, _⟩ => ⟨S4096x1, .i32⟩
  | .hbm, ⟨93, _⟩ => ⟨S4096x1, .i1⟩
  | .hbm, ⟨94, _⟩ => ⟨S4096x1, .i1⟩
  | .hbm, ⟨95, _⟩ => ⟨S_, .i1⟩
  | .hbm, ⟨96, _⟩ => ⟨S4096, .i1⟩
  | .hbm, ⟨97, _⟩ => ⟨S4096x256, .f32⟩
  | .hbm, ⟨98, _⟩ => ⟨S4096x256, .i1⟩
  | .hbm, ⟨99, _⟩ => ⟨S_, .f32⟩
  | .hbm, ⟨100, _⟩ => ⟨S4096x256, .f32⟩
  | .hbm, ⟨101, _⟩ => ⟨S4096x256, .f32⟩
  | .hbm, ⟨102, _⟩ => ⟨S4096x1024, .f32⟩
  | .hbm, ⟨103, _⟩ => ⟨S1x1024, .f32⟩
  | .hbm, ⟨104, _⟩ => ⟨S4096x1024, .f32⟩
  | .hbm, ⟨105, _⟩ => ⟨S4096x1024, .f32⟩
  | .hbm, ⟨106, _⟩ => ⟨S_, .f32⟩
  | .hbm, ⟨107, _⟩ => ⟨S4096x1024, .f32⟩
  | .hbm, ⟨108, _⟩ => ⟨S4096x1024, .f32⟩
  | .hbm, ⟨109, _⟩ => ⟨S4096x1024, .f32⟩
  | .hbm, ⟨110, _⟩ => ⟨S1x1024, .f32⟩
  | .hbm, ⟨111, _⟩ => ⟨S4096x1024, .f32⟩
  | .hbm, ⟨112, _⟩ => ⟨S4096x1024, .f32⟩
  | .hbm, ⟨113, _⟩ => ⟨S_, .f32⟩
  | .hbm, ⟨114, _⟩ => ⟨S4096x1024, .f32⟩
  | .hbm, ⟨115, _⟩ => ⟨S4096x1024, .f32⟩
  | .hbm, ⟨116, _⟩ => ⟨S4096x1024, .f32⟩
  | .hbm, ⟨117, _⟩ => ⟨S1x1024, .f32⟩
  | .hbm, ⟨118, _⟩ => ⟨S4096x1024, .f32⟩
  | .hbm, ⟨119, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_cst : Ref sig .tc := ⟨.hbm, 25, rfl⟩
abbrev main_call1_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_1 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call2_v0 : Ref sig .tc := ⟨.hbm, 49, rfl⟩
abbrev main_call2_cst : Ref sig .tc := ⟨.hbm, 50, rfl⟩
abbrev main_call2_c : Ref sig .tc := ⟨.hbm, 51, rfl⟩
abbrev main_call2_v1_0 : Ref sig .tc := ⟨.hbm, 52, rfl⟩
abbrev main_v28 : Ref sig .tc := ⟨.hbm, 53, rfl⟩
abbrev main_call3_c : Ref sig .tc := ⟨.hbm, 54, rfl⟩
abbrev main_call3_v0 : Ref sig .tc := ⟨.hbm, 55, rfl⟩
abbrev main_call3_v1 : Ref sig .tc := ⟨.hbm, 56, rfl⟩
abbrev main_call3_c_0 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_v5 : Ref sig .tc := ⟨.hbm, 61, rfl⟩
abbrev main_call3_c_1 : Ref sig .tc := ⟨.hbm, 62, rfl⟩
abbrev main_call3_c_2 : Ref sig .tc := ⟨.hbm, 63, rfl⟩
abbrev main_call3_v6 : Ref sig .tc := ⟨.hbm, 64, rfl⟩
abbrev main_call3_v7 : Ref sig .tc := ⟨.hbm, 65, rfl⟩
abbrev main_call3_v8 : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_call3_c_3 : Ref sig .tc := ⟨.hbm, 70, rfl⟩
abbrev main_call3_v12 : Ref sig .tc := ⟨.hbm, 71, rfl⟩
abbrev main_call3_v13 : Ref sig .tc := ⟨.hbm, 72, rfl⟩
abbrev main_call3_v14 : Ref sig .tc := ⟨.hbm, 73, rfl⟩
abbrev main_call3_cst : Ref sig .tc := ⟨.hbm, 74, rfl⟩
abbrev main_call3_v15 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_call4_c : Ref sig .tc := ⟨.hbm, 79, rfl⟩
abbrev main_call4_v0 : Ref sig .tc := ⟨.hbm, 80, rfl⟩
abbrev main_call4_v1 : Ref sig .tc := ⟨.hbm, 81, rfl⟩
abbrev main_call4_c_0 : Ref sig .tc := ⟨.hbm, 82, rfl⟩
abbrev main_call4_v2 : Ref sig .tc := ⟨.hbm, 83, rfl⟩
abbrev main_call4_v3 : Ref sig .tc := ⟨.hbm, 84, rfl⟩
abbrev main_call4_v4 : Ref sig .tc := ⟨.hbm, 85, rfl⟩
abbrev main_call4_v5 : Ref sig .tc := ⟨.hbm, 86, rfl⟩
abbrev main_call4_c_1 : Ref sig .tc := ⟨.hbm, 87, rfl⟩
abbrev main_call4_c_2 : Ref sig .tc := ⟨.hbm, 88, rfl⟩
abbrev main_call4_v6 : Ref sig .tc := ⟨.hbm, 89, rfl⟩
abbrev main_call4_v7 : Ref sig .tc := ⟨.hbm, 90, rfl⟩
abbrev main_call4_v8 : Ref sig .tc := ⟨.hbm, 91, rfl⟩
abbrev main_call4_v9 : Ref sig .tc := ⟨.hbm, 92, rfl⟩
abbrev main_call4_v10 : Ref sig .tc := ⟨.hbm, 93, rfl⟩
abbrev main_call4_v11 : Ref sig .tc := ⟨.hbm, 94, rfl⟩
abbrev main_call4_c_3 : Ref sig .tc := ⟨.hbm, 95, rfl⟩
abbrev main_call4_v12 : Ref sig .tc := ⟨.hbm, 96, rfl⟩
abbrev main_call4_v13 : Ref sig .tc := ⟨.hbm, 97, rfl⟩
abbrev main_call4_v14 : Ref sig .tc := ⟨.hbm, 98, rfl⟩
abbrev main_call4_cst : Ref sig .tc := ⟨.hbm, 99, rfl⟩
abbrev main_call4_v15 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_call5_cst : Ref sig .tc := ⟨.hbm, 106, rfl⟩
abbrev main_call5_v0 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_call6_cst : Ref sig .tc := ⟨.hbm, 113, rfl⟩
abbrev main_call6_v0 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩

abbrev nD : Nat := 1
abbrev τ : Topo := Topo.v7x

variable {F : FTy → Type} [FloatOps F]
-- ==== Proof.Block.lean ====
/-
  What one run of the body computes, as explicit terms. The weights cast once at the first point and kept (`w1` … `wd3`, the two halves
  of the codebook and its row norms), and the three blocks every point writes; then that the generated runs leave exactly these.
-/
module

public import proofs.«01_k».proof.Proof.Gen.KernelIdeal.Frame.RunB
public import Idealize.ShloMosaic.Lib.Pipeline.Value
public import Idealize.ShloMosaic.Lib.Claim

@[expose] public section

set_option maxRecDepth 16384

noncomputable section

namespace Cert.Proof.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- A load of the whole of a memref holding X reads X. -/
theorem readAt_unread {s : Shape} {e : EltTy} {sp : Space} {M : Memref sig .tc sp s e} (h : M.IsWhole) {off : Fin s.rank → ℕ}
    (ho : off = fun _ => 0) (inb : ∀ a, off a + s.size a ≤ s.size a) (X : s.Idx → Elt F e) :
    View.readAt (Elt F) M.view (Rect.unit off s.size inb).toLoadRect (h.unread X) = X := by
  rw [View.readAt_eq_ld, h.read_unread, View.ld_unit_zero ho]

/-- One store over the whole of a view leaves its payload. -/
theorem read_write_one {s : Shape} {e : EltTy} {κ : Kind} {sp : Space} (v : View sig κ sp s e) {off : Fin s.rank → ℕ}
    (ho : off = fun _ => 0) (inb : ∀ a, off a + s.size a ≤ s.size a) (f : v.ty.Contents (Elt F)) (X : s.Idx → Elt F e) :
    v.read (Elt F) (v.writes (Elt F) f [⟨Rect.unit off s.size inb, X⟩]) = X := by
  subst ho
  rw [View.read_writes_eq_canon, View.canon_unit_zero rfl]
  exact fun y => ⟨_, List.mem_singleton_self _, by
    show y ∈ (Rect.whole s).set; rw [Rect.set_whole]; exact Finset.mem_univ y⟩

/-- The offsets (0, 0) are zero. -/
theorem off0 : (![0, 0] : Fin 2 → ℕ) = fun _ => 0 := by decide

/-- The encoder's first weight, as the first point keeps it. -/
def w1 (c : Dev nD) : S1024x1024.Idx → Elt F .bf16 := k0_pay2 (V m c main_arg1)
/-- The encoder's second weight, as the first point keeps it. -/
def w2 (c : Dev nD) : S1024x1024.Idx → Elt F .bf16 := k0_pay3 (V m c main_arg3)
/-- The encoder's third weight, as the first point keeps it. -/
def w3 (c : Dev nD) : S1024x256.Idx → Elt F .bf16 := k0_pay4 (V m c main_arg5)
/-- The decoder's first weight, as the first point keeps it. -/
def wd1 (c : Dev nD) : S256x1024.Idx → Elt F .bf16 := k0_pay5 (V m c main_arg7)
/-- The decoder's second weight, as the first point keeps it. -/
def wd2 (c : Dev nD) : S1024x1024.Idx → Elt F .bf16 := k0_pay6 (V m c main_arg9)
/-- The decoder's third weight, as the first point keeps it. -/
def wd3 (c : Dev nD) : S1024x1024.Idx → Elt F .bf16 := k0_pay7 (V m c main_arg11)
/-- The codebook's high half, as the first point keeps it. -/
def cbh (c : Dev nD) : S1024x256.Idx → Elt F .bf16 := k0_pay9 (k0_pay8 (V m c main_arg13))
/-- The codebook's low half, as the first point keeps it. -/
def cbl (c : Dev nD) : S1024x256.Idx → Elt F .bf16 := k0_pay10 (V m c main_arg13) (k0_pay8 (V m c main_arg13))
/-- The codebook's squared row norms, as one row, as the first point keeps it. -/
def csq (c : Dev nD) : S1x1024.Idx → Elt F .f32 := k0_pay11 (V m c main_arg13)

/-- The block of z_e a point writes. -/
def ze (c : Dev nD) (t : Fin cfg0.N) : S512x256.Idx → Elt F .f32 :=
  k0_pay12 (iblk m c 0 t) (w1 m c) (iblk m c 1 t) (w2 m c) (iblk m c 2 t) (w3 m c) (iblk m c 3 t)
/-- The squared norms of its rows. -/
def zsq (c : Dev nD) (t : Fin cfg0.N) : S512x1.Idx → Elt F .f32 :=
  k0_pay13 (iblk m c 0 t) (w1 m c) (iblk m c 1 t) (w2 m c) (iblk m c 2 t) (w3 m c) (iblk m c 3 t)
/-- The block of z_q a point writes: the one-hot rows times the two halves of the codebook. -/
def zq (c : Dev nD) (t : Fin cfg0.N) : S512x256.Idx → Elt F .f32 :=
  k0_pay16 (ze m c t) (zsq m c t) (cbh m c) (csq m c) (cbh m c) (cbl m c)
/-- The decoder's first layer of a point, rounded. -/
def h1 (c : Dev nD) (t : Fin cfg0.N) : S512x1024.Idx → Elt F .bf16 :=
  k0_pay17 (ze m c t) (zsq m c t) (cbh m c) (csq m c) (cbh m c) (wd1 m c) (iblk m c 4 t)
/-- The block of x_tilde a point writes. -/
def xt (c : Dev nD) (t : Fin cfg0.N) : S512x1024.Idx → Elt F .f32 :=
  k0_pay1 (h1 m c t) (wd2 m c) (iblk m c 5 t) (wd3 m c) (iblk m c 6 t)

/-- The body's run at the first point. -/
abbrev runA (c : Dev nD) (t : Fin cfg0.N) (h0 : t.val % 8 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _)
    ((hcond0_0 t).mpr h0) (iblk m c 0 t) (iblk m c 1 t) (iblk m c 2 t) (iblk m c 3 t) (iblk m c 4 t) (iblk m c 5 t) (iblk m c 6 t)
    (V m c main_arg1) (V m c main_arg3) (V m c main_arg5) (V m c main_arg7) (V m c main_arg9) (V m c main_arg11) (V m c main_arg13)

/-- The body's run at a later point, the kept arrays at what the first point left. -/
abbrev runB (c : Dev nD) (t : Fin cfg0.N) (h0 : ¬ t.val % 8 = 0) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _)
    (fun h => h0 ((hcond0_0 t).mp h)) (iblk m c 0 t) (iblk m c 1 t) (iblk m c 2 t) (iblk m c 3 t) (iblk m c 4 t) (iblk m c 5 t) (iblk m c 6 t) (w1 m c) (w2 m c) (w3 m c) (wd1 m c) (wd2 m c) (wd3 m c) (cbh m c) (cbl m c) (csq m c)
    (V m c main_arg1) (V m c main_arg3) (V m c main_arg5) (V m c main_arg7) (V m c main_arg9) (V m c main_arg11) (V m c main_arg13)

/-- What the first point's copy number 0 into the staging array reads back. -/
theorem copied0 (c : Dev nD) : kernelRun0_A.sl.v87 c scM0_9 (V m c main_arg1) = V m c main_arg1 :=
  (View.readCov_cons_toLoadRect _ _ _ _).trans rfl

/-- What the first point's copy number 1 into the staging array reads back. -/
theorem copied1 (c : Dev nD) : kernelRun0_A.sl.v94 c scM0_9 (V m c main_arg1) (V m c main_arg3) = V m c main_arg3 :=
  (View.readCov_cons_toLoadRect _ _ _ _).trans rfl

/-- What the first point's copy number 2 into the staging array reads back. -/
theorem copied2 (c : Dev nD) : kernelRun0_A.sl.v101 c scM0_9 (V m c main_arg1) (V m c main_arg3) (V m c main_arg5) = V m c main_arg5 :=
  (View.readCov_cons_toLoadRect _ _ _ _).trans rfl

/-- What the first point's copy number 3 into the staging array reads back. -/
theorem copied3 (c : Dev nD) : kernelRun0_A.sl.v108 c scM0_9 (V m c main_arg1) (V m c main_arg3) (V m c main_arg5) (V m c main_arg7) = V m c main_arg7 :=
  (View.readCov_cons_toLoadRect _ _ _ _).trans rfl

/-- What the first point's copy number 4 into the staging array reads back. -/
theorem copied4 (c : Dev nD) : kernelRun0_A.sl.v115 c scM0_9 (V m c main_arg1) (V m c main_arg3) (V m c main_arg5) (V m c main_arg7) (V m c main_arg9) = V m c main_arg9 :=
  (View.readCov_cons_toLoadRect _ _ _ _).trans rfl

/-- What the first point's copy number 5 into the staging array reads back. -/
theorem copied5 (c : Dev nD) : kernelRun0_A.sl.v122 c scM0_9 (V m c main_arg1) (V m c main_arg3) (V m c main_arg5) (V m c main_arg7) (V m c main_arg9) (V m c main_arg11) = V m c main_arg11 :=
  (View.readCov_cons_toLoadRect _ _ _ _).trans rfl

/-- What the first point's copy number 6 into the staging array reads back. -/
theorem copied6 (c : Dev nD) : kernelRun0_A.sl.v129 c scM0_9 (V m c main_arg1) (V m c main_arg3) (V m c main_arg5) (V m c main_arg7) (V m c main_arg9) (V m c main_arg11) (V m c main_arg13) = V m c main_arg13 :=
  (View.readCov_cons_toLoadRect _ _ _ _).trans rfl

/-- What the first point loads back from `w1`. -/
theorem loadA0 (c : Dev nD) : kernelRun0_A.sl.v4 c scM0_0 scM0_9 (V m c main_arg1) = w1 m c :=
  (View.readCov_cons_toLoadRect _ _ _ _).trans (congrArg k0_pay2 (copied0 m c))

/-- What the first point loads back from `w2`. -/
theorem loadA1 (c : Dev nD) : kernelRun0_A.sl.v12 c scM0_1 scM0_9 (V m c main_arg1) (V m c main_arg3) = w2 m c :=
  (View.readCov_cons_toLoadRect _ _ _ _).trans (congrArg k0_pay3 (copied1 m c))

/-- What the first point loads back from `w3`. -/
theorem loadA2 (c : Dev nD) : kernelRun0_A.sl.v20 c scM0_2 scM0_9 (V m c main_arg1) (V m c main_arg3) (V m c main_arg5) = w3 m c :=
  (View.readCov_cons_toLoadRect _ _ _ _).trans (congrArg k0_pay4 (copied2 m c))

/-- What the first point loads back from `wd1`. -/
theorem loadA3 (c : Dev nD) : kernelRun0_A.sl.v60 c scM0_3 scM0_9 (V m c main_arg1) (V m c main_arg3) (V m c main_arg5) (V m c main_arg7) = wd1 m c :=
  (View.readCov_cons_toLoadRect _ _ _ _).trans (congrArg k0_pay5 (copied3 m c))

/-- What the first point loads back from `wd2`. -/
theorem loadA4 (c : Dev nD) : kernelRun0_A.sl.v69 c scM0_4 scM0_9 (V m c main_arg1) (V m c main_arg3) (V m c main_arg5) (V m c main_arg7) (V m c main_arg9) = wd2 m c :=
  (View.readCov_cons_toLoadRect _ _ _ _).trans (congrArg k0_pay6 (copied4 m c))

/-- What the first point loads back from `wd3`. -/
theorem loadA5 (c : Dev nD) : kernelRun0_A.sl.v78 c scM0_5 scM0_9 (V m c main_arg1) (V m c main_arg3) (V m c main_arg5) (V m c main_arg7) (V m c main_arg9) (V m c main_arg11) = wd3 m c :=
  (View.readCov_cons_toLoadRect _ _ _ _).trans (congrArg k0_pay7 (copied5 m c))

/-- What the first point loads back from `cbh`. -/
theorem loadA6 (c : Dev nD) : kernelRun0_A.sl.v30 c scM0_6 scM0_9 (V m c main_arg1) (V m c main_arg3) (V m c main_arg5) (V m c main_arg7) (V m c main_arg9) (V m c main_arg11) (V m c main_arg13) = cbh m c :=
  (View.readCov_cons_toLoadRect _ _ _ _).trans (by unfold cbh kernelRun0_A.sl.r; rw [copied6])

/-- What the first point loads back from `cbl`. -/
theorem loadA7 (c : Dev nD) : kernelRun0_A.sl.v55 c scM0_7 scM0_9 (V m c main_arg1) (V m c main_arg3) (V m c main_arg5) (V m c main_arg7) (V m c main_arg9) (V m c main_arg11) (V m c main_arg13) = cbl m c :=
  (View.readCov_cons_toLoadRect _ _ _ _).trans (by unfold cbl kernelRun0_A.sl.r; rw [copied6])

/-- What the first point loads back from `csq`. -/
theorem loadA8 (c : Dev nD) : kernelRun0_A.sl.v32 c scM0_8 scM0_9 (V m c main_arg1) (V m c main_arg3) (V m c main_arg5) (V m c main_arg7) (V m c main_arg9) (V m c main_arg11) (V m c main_arg13) = csq m c :=
  (View.readCov_cons_toLoadRect _ _ _ _).trans (congrArg k0_pay11 (copied6 m c))

/-- The first point's block of z_e, as the later operations of the run read it. -/
theorem rA1 (c : Dev nD) (t : Fin cfg0.N) : kernelRun0_A.sl.r_1 c (ms0_0 t) (hs0_0 t) (ms0_1 t) (hs0_1 t) (ms0_2 t) (hs0_2 t) (ms0_3 t) (hs0_3 t) scM0_0 scM0_1 scM0_2 scM0_9 (iblk m c 0 t) (iblk m c 1 t) (iblk m c 2 t) (iblk m c 3 t)
    (V m c main_arg1) (V m c main_arg3) (V m c main_arg5) = ze m c t := by
  unfold kernelRun0_A.sl.r_1 ze
  rw [loadA0, loadA1, loadA2, readAt_unread _ off0, readAt_unread _ off0, readAt_unread _ off0, readAt_unread _ off0]

/-- Its rows' squared norms. -/
theorem rA2 (c : Dev nD) (t : Fin cfg0.N) : kernelRun0_A.sl.r_2 c (ms0_0 t) (hs0_0 t) (ms0_1 t) (hs0_1 t) (ms0_2 t) (hs0_2 t) (ms0_3 t) (hs0_3 t) scM0_0 scM0_1 scM0_2 scM0_9 (iblk m c 0 t) (iblk m c 1 t) (iblk m c 2 t) (iblk m c 3 t)
    (V m c main_arg1) (V m c main_arg3) (V m c main_arg5) = zsq m c t := by
  unfold kernelRun0_A.sl.r_2 zsq
  rw [loadA0, loadA1, loadA2, readAt_unread _ off0, readAt_unread _ off0, readAt_unread _ off0, readAt_unread _ off0]

/-- The first point's decoder layer. -/
theorem rA3 (c : Dev nD) (t : Fin cfg0.N) : kernelRun0_A.sl.r_3 c (ms0_0 t) (hs0_0 t) (ms0_1 t) (hs0_1 t) (ms0_2 t) (hs0_2 t) (ms0_3 t) (hs0_3 t) (ms0_4 t) (hs0_4 t) scM0_0 scM0_1 scM0_2 scM0_3 scM0_6 scM0_8 scM0_9
    (iblk m c 0 t) (iblk m c 1 t) (iblk m c 2 t) (iblk m c 3 t) (iblk m c 4 t) (V m c main_arg1) (V m c main_arg3) (V m c main_arg5) (V m c main_arg7) (V m c main_arg9) (V m c main_arg11) (V m c main_arg13) = h1 m c t := by
  unfold kernelRun0_A.sl.r_3 h1
  rw [rA1, rA2, loadA6, loadA8, loadA3, readAt_unread _ off0]

/-- The first point leaves `w1`. -/
theorem keptA0 (c : Dev nD) (t : Fin cfg0.N) (h0 : t.val % 8 = 0) (f) :
    VS0_0.read (Elt F) (VS0_0.writes (Elt F) f (runA m c t h0).2.2.2.1) = w1 m c := by
  unfold runA kernelRun0_A
  dsimp only
  exact (read_write_one VS0_0 off0 _ f _).trans (congrArg k0_pay2 (copied0 m c))

/-- The first point leaves `w2`. -/
theorem keptA1 (c : Dev nD) (t : Fin cfg0.N) (h0 : t.val % 8 = 0) (f) :
    VS0_1.read (Elt F) (VS0_1.writes (Elt F) f (runA m c t h0).2.2.2.2.1) = w2 m c := by
  unfold runA kernelRun0_A
  dsimp only
  exact (read_write_one VS0_1 off0 _ f _).trans (congrArg k0_pay3 (copied1 m c))

/-- The first point leaves `w3`. -/
theorem keptA2 (c : Dev nD) (t : Fin cfg0.N) (h0 : t.val % 8 = 0) (f) :
    VS0_2.read (Elt F) (VS0_2.writes (Elt F) f (runA m c t h0).2.2.2.2.2.1) = w3 m c := by
  unfold runA kernelRun0_A
  dsimp only
  exact (read_write_one VS0_2 off0 _ f _).trans (congrArg k0_pay4 (copied2 m c))

/-- The first point leaves `wd1`. -/
theorem keptA3 (c : Dev nD) (t : Fin cfg0.N) (h0 : t.val % 8 = 0) (f) :
    VS0_3.read (Elt F) (VS0_3.writes (Elt F) f (runA m c t h0).2.2.2.2.2.2.1) = wd1 m c := by
  unfold runA kernelRun0_A
  dsimp only
  exact (read_write_one VS0_3 off0 _ f _).trans (congrArg k0_pay5 (copied3 m c))

/-- The first point leaves `wd2`. -/
theorem keptA4 (c : Dev nD) (t : Fin cfg0.N) (h0 : t.val % 8 = 0) (f) :
    VS0_4.read (Elt F) (VS0_4.writes (Elt F) f (runA m c t h0).2.2.2.2.2.2.2.1) = wd2 m c := by
  unfold runA kernelRun0_A
  dsimp only
  exact (read_write_one VS0_4 off0 _ f _).trans (congrArg k0_pay6 (copied4 m c))

/-- The first point leaves `wd3`. -/
theorem keptA5 (c : Dev nD) (t : Fin cfg0.N) (h0 : t.val % 8 = 0) (f) :
    VS0_5.read (Elt F) (VS0_5.writes (Elt F) f (runA m c t h0).2.2.2.2.2.2.2.2.1) = wd3 m c := by
  unfold runA kernelRun0_A
  dsimp only
  exact (read_write_one VS0_5 off0 _ f _).trans (congrArg k0_pay7 (copied5 m c))

/-- The first point leaves `cbh`. -/
theorem keptA6 (c : Dev nD) (t : Fin cfg0.N) (h0 : t.val % 8 = 0) (f) :
    VS0_6.read (Elt F) (VS0_6.writes (Elt F) f (runA m c t h0).2.2.2.2.2.2.2.2.2.1) = cbh m c := by
  unfold runA kernelRun0_A
  dsimp only
  exact (read_write_one VS0_6 off0 _ f _).trans (by unfold cbh kernelRun0_A.sl.r; rw [copied6])

/-- The first point leaves `cbl`. -/
theorem keptA7 (c : Dev nD) (t : Fin cfg0.N) (h0 : t.val % 8 = 0) (f) :
    VS0_7.read (Elt F) (VS0_7.writes (Elt F) f (runA m c t h0).2.2.2.2.2.2.2.2.2.2.1) = cbl m c := by
  unfold runA kernelRun0_A
  dsimp only
  exact (read_write_one VS0_7 off0 _ f _).trans (by unfold cbl kernelRun0_A.sl.r; rw [copied6])

/-- The first point leaves `csq`. -/
theorem keptA8 (c : Dev nD) (t : Fin cfg0.N) (h0 : t.val % 8 = 0) (f) :
    VS0_8.read (Elt F) (VS0_8.writes (Elt F) f (runA m c t h0).2.2.2.2.2.2.2.2.2.2.2.1) = csq m c := by
  unfold runA kernelRun0_A
  dsimp only
  exact (read_write_one VS0_8 off0 _ f _).trans (congrArg k0_pay11 (copied6 m c))

/-- The first point writes the block `xt`. -/
theorem outA7 (c : Dev nD) (t : Fin cfg0.N) (h0 : t.val % 8 = 0) (f) :
    VO0_7.read (Elt F) (VO0_7.writes (Elt F) f (runA m c t h0).1) = xt m c t := by
  unfold runA kernelRun0_A
  dsimp only
  refine (read_write_one VO0_7 off0 _ f _).trans ?_
  unfold xt
  rw [rA3, loadA4, loadA5, readAt_unread _ off0, readAt_unread _ off0]

/-- The first point writes the block `ze`. -/
theorem outA8 (c : Dev nD) (t : Fin cfg0.N) (h0 : t.val % 8 = 0) (f) :
    VO0_8.read (Elt F) (VO0_8.writes (Elt F) f (runA m c t h0).2.1) = ze m c t := by
  unfold runA kernelRun0_A
  dsimp only
  exact (read_write_one VO0_8 off0 _ f _).trans (rA1 m c t)

/-- The first point writes the block `zq`. -/
theorem outA9 (c : Dev nD) (t : Fin cfg0.N) (h0 : t.val % 8 = 0) (f) :
    VO0_9.read (Elt F) (VO0_9.writes (Elt F) f (runA m c t h0).2.2.1) = zq m c t := by
  unfold runA kernelRun0_A
  dsimp only
  refine (read_write_one VO0_9 off0 _ f _).trans ?_
  unfold zq
  rw [rA1, rA2, loadA6, loadA8, loadA7]

/-- A later point's block of z_e. -/
theorem rB0 (c : Dev nD) (t : Fin cfg0.N) : kernelRun0_B.sl.r c (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (iblk m c 3 t) (w1 m c) (w2 m c) (w3 m c) = ze m c t := by
  unfold kernelRun0_B.sl.r ze
  rw [readAt_unread _ off0, readAt_unread _ off0, readAt_unread _ off0, readAt_unread _ off0, readAt_unread _ off0, readAt_unread _ off0, readAt_unread _ off0]

/-- Its rows' squared norms. -/
theorem rB1 (c : Dev nD) (t : Fin cfg0.N) : kernelRun0_B.sl.r_1 c (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (iblk m c 3 t) (w1 m c) (w2 m c) (w3 m c) = zsq m c t := by
  unfold kernelRun0_B.sl.r_1 zsq
  rw [readAt_unread _ off0, readAt_unread _ off0, readAt_unread _ off0, readAt_unread _ off0, readAt_unread _ off0, readAt_unread _ off0, readAt_unread _ off0]

/-- The high half a later point loads. -/
theorem rB2 (c : Dev nD) : kernelRun0_B.sl.r_2 c scM0_6 (Memref.isWhole_whole _) (cbh m c) = cbh m c :=
  readAt_unread _ off0 _ _

/-- A later point's decoder layer. -/
theorem rB3 (c : Dev nD) (t : Fin cfg0.N) : kernelRun0_B.sl.r_3 c (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_6 (Memref.isWhole_whole _) scM0_8 (Memref.isWhole_whole _) (iblk m c 0 t) (iblk m c 1 t) (iblk m c 2 t) (iblk m c 3 t) (iblk m c 4 t)
    (w1 m c) (w2 m c) (w3 m c) (wd1 m c) (cbh m c) (csq m c) = h1 m c t := by
  unfold kernelRun0_B.sl.r_3 h1
  rw [rB0, rB1, rB2, readAt_unread _ off0, readAt_unread _ off0, readAt_unread _ off0, readAt_unread _ off0]

/-- A later point writes the block `xt`. -/
theorem outB7 (c : Dev nD) (t : Fin cfg0.N) (h0 : ¬ t.val % 8 = 0) (f) :
    VO0_7.read (Elt F) (VO0_7.writes (Elt F) f (runB m c t h0).1) = xt m c t := by
  unfold runB kernelRun0_B
  dsimp only
  refine (read_write_one VO0_7 off0 _ f _).trans ?_
  unfold xt
  rw [rB3]
  exact congr (congr (congr (congrArg _ (readAt_unread _ off0 _ _)) (readAt_unread _ off0 _ _)) (readAt_unread _ off0 _ _)) (readAt_unread _ off0 _ _)

/-- A later point writes the block `ze`. -/
theorem outB8 (c : Dev nD) (t : Fin cfg0.N) (h0 : ¬ t.val % 8 = 0) (f) :
    VO0_8.read (Elt F) (VO0_8.writes (Elt F) f (runB m c t h0).2.1) = ze m c t := by
  unfold runB kernelRun0_B
  dsimp only
  exact (read_write_one VO0_8 off0 _ f _).trans (rB0 m c t)

/-- A later point writes the block `zq`. -/
theorem outB9 (c : Dev nD) (t : Fin cfg0.N) (h0 : ¬ t.val % 8 = 0) (f) :
    VO0_9.read (Elt F) (VO0_9.writes (Elt F) f (runB m c t h0).2.2.1) = zq m c t := by
  unfold runB kernelRun0_B
  dsimp only
  refine (read_write_one VO0_9 off0 _ f _).trans ?_
  unfold zq
  rw [rB0, rB1, rB2]
  exact congr (congr (congrArg _ (readAt_unread _ off0 _ _)) (readAt_unread _ off0 _ _)) (readAt_unread _ off0 _ _)

/-- The pieces written into window 7's block cover it. -/
theorem coverA7 (c : Dev nD) (t : Fin cfg0.N) (h0 : t.val % 8 = 0) (y) : ∃ p ∈ (runA m c t h0).1, y ∈ p.1.set := by
  unfold runA kernelRun0_A
  exact View.cover_of_tiledL _ ![512, 1024] (by sl_kernel_rfl) y

/-- The pieces written into window 8's block cover it. -/
theorem coverA8 (c : Dev nD) (t : Fin cfg0.N) (h0 : t.val % 8 = 0) (y) : ∃ p ∈ (runA m c t h0).2.1, y ∈ p.1.set := by
  unfold runA kernelRun0_A
  exact View.cover_of_tiledL _ ![512, 256] (by sl_kernel_rfl) y

/-- The pieces written into window 9's block cover it. -/
theorem coverA9 (c : Dev nD) (t : Fin cfg0.N) (h0 : t.val % 8 = 0) (y) : ∃ p ∈ (runA m c t h0).2.2.1, y ∈ p.1.set := by
  unfold runA kernelRun0_A
  exact View.cover_of_tiledL _ ![512, 256] (by sl_kernel_rfl) y

/-- The pieces written into window 7's block cover it. -/
theorem coverB7 (c : Dev nD) (t : Fin cfg0.N) (h0 : ¬ t.val % 8 = 0) (y) : ∃ p ∈ (runB m c t h0).1, y ∈ p.1.set := by
  unfold runB kernelRun0_B
  exact View.cover_of_tiledL _ ![512, 1024] (by sl_kernel_rfl) y

/-- The pieces written into window 8's block cover it. -/
theorem coverB8 (c : Dev nD) (t : Fin cfg0.N) (h0 : ¬ t.val % 8 = 0) (y) : ∃ p ∈ (runB m c t h0).2.1, y ∈ p.1.set := by
  unfold runB kernelRun0_B
  exact View.cover_of_tiledL _ ![512, 256] (by sl_kernel_rfl) y

/-- The pieces written into window 9's block cover it. -/
theorem coverB9 (c : Dev nD) (t : Fin cfg0.N) (h0 : ¬ t.val % 8 = 0) (y) : ∃ p ∈ (runB m c t h0).2.2.1, y ∈ p.1.set := by
  unfold runB kernelRun0_B
  exact View.cover_of_tiledL _ ![512, 256] (by sl_kernel_rfl) y

end Cert.Proof.Block

end
-- ==== Proof.Run.lean ====
/-
  The run of the kernel, for any float values: the eight points of the grid, the first keeping the cast weights that the later ones read.
  It terminates, changes no argument, leaves every semaphore at zero, and leaves the three result arrays at what their blocks say.
-/
module

public import proofs.«01_k».proof.Proof.Block
public import Idealize.ShloMosaic.Lib.Pipeline.Value
public import Idealize.ShloMosaic.Lib.Claim

@[expose] public section

set_option maxRecDepth 16384

noncomputable section

namespace Cert.Proof.Run

open Cert.KernelIdeal Cert.KernelIdeal.Gen Cert.Proof.Block
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What is held between points. Before the first: every kept array at anything. After it: the kept arrays at `w1` … `csq`, which no later
    point changes; the staging array at anything; the generator register, the copy semaphore at zero and the copied arguments. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare (w1 m c) ∗ owns (c : Thread nD τ) scM0_1 fullShare (w2 m c) ∗ owns (c : Thread nD τ) scM0_2 fullShare (w3 m c) ∗ owns (c : Thread nD τ) scM0_3 fullShare (wd1 m c) ∗ owns (c : Thread nD τ) scM0_4 fullShare (wd2 m c) ∗ owns (c : Thread nD τ) scM0_5 fullShare (wd3 m c) ∗ owns (c : Thread nD τ) scM0_6 fullShare (cbh m c) ∗ owns (c : Thread nD τ) scM0_7 fullShare (cbl m c) ∗ owns (c : Thread nD τ) scM0_8 fullShare (csq m c) ∗ (∃ d, owns (c : Thread nD τ) scM0_9 fullShare d)) ∗ (∃ r, prngReg c r) ∗ iprop(semVal ((c : Thread nD τ), SemLoc.dma 14) 0) ∗ iprop(hbPt0 c hbM0_0 (V m c main_arg1) ∗ hbPt0 c hbM0_1 (V m c main_arg3) ∗ hbPt0 c hbM0_2 (V m c main_arg5) ∗ hbPt0 c hbM0_3 (V m c main_arg7) ∗ hbPt0 c hbM0_4 (V m c main_arg9) ∗ hbPt0 c hbM0_5 (V m c main_arg11) ∗ hbPt0 c hbM0_6 (V m c main_arg13)))

/-- Before the first point the kept arrays hold anything. -/
theorem PhiS_zero (c : Dev nD) (n : ℕ) (h : n ≤ cfg0.N) (hz : n = 0) : PhiS m c n h = Pipeline.ΦD osem0 spec0 H0 (V m) c := by
  subst hz; rfl

/-- After point `n`: the kept arrays at their values. -/
theorem PhiS_succ (c : Dev nD) (n : ℕ) (hn : n < cfg0.N) :
    PhiS m c (n + 1) hn = iprop(iprop(owns (c : Thread nD τ) scM0_0 fullShare (w1 m c) ∗ owns (c : Thread nD τ) scM0_1 fullShare (w2 m c) ∗ owns (c : Thread nD τ) scM0_2 fullShare (w3 m c) ∗ owns (c : Thread nD τ) scM0_3 fullShare (wd1 m c) ∗ owns (c : Thread nD τ) scM0_4 fullShare (wd2 m c) ∗ owns (c : Thread nD τ) scM0_5 fullShare (wd3 m c) ∗ owns (c : Thread nD τ) scM0_6 fullShare (cbh m c) ∗ owns (c : Thread nD τ) scM0_7 fullShare (cbl m c) ∗ owns (c : Thread nD τ) scM0_8 fullShare (csq m c) ∗ (∃ d, owns (c : Thread nD τ) scM0_9 fullShare d)) ∗ (∃ r, prngReg c r) ∗ iprop(semVal ((c : Thread nD τ), SemLoc.dma 14) 0) ∗ iprop(hbPt0 c hbM0_0 (V m c main_arg1) ∗ hbPt0 c hbM0_1 (V m c main_arg3) ∗ hbPt0 c hbM0_2 (V m c main_arg5) ∗ hbPt0 c hbM0_3 (V m c main_arg7) ∗ hbPt0 c hbM0_4 (V m c main_arg9) ∗ hbPt0 c hbM0_5 (V m c main_arg11) ∗ hbPt0 c hbM0_6 (V m c main_arg13))) := rfl

/-- Before a point that is not the first: the kept arrays at their values. -/
theorem PhiS_pos (c : Dev nD) (n : ℕ) (h : n ≤ cfg0.N) (hz : n ≠ 0) :
    PhiS m c n h = iprop(iprop(owns (c : Thread nD τ) scM0_0 fullShare (w1 m c) ∗ owns (c : Thread nD τ) scM0_1 fullShare (w2 m c) ∗ owns (c : Thread nD τ) scM0_2 fullShare (w3 m c) ∗ owns (c : Thread nD τ) scM0_3 fullShare (wd1 m c) ∗ owns (c : Thread nD τ) scM0_4 fullShare (wd2 m c) ∗ owns (c : Thread nD τ) scM0_5 fullShare (wd3 m c) ∗ owns (c : Thread nD τ) scM0_6 fullShare (cbh m c) ∗ owns (c : Thread nD τ) scM0_7 fullShare (cbl m c) ∗ owns (c : Thread nD τ) scM0_8 fullShare (csq m c) ∗ (∃ d, owns (c : Thread nD τ) scM0_9 fullShare d)) ∗ (∃ r, prngReg c r) ∗ iprop(semVal ((c : Thread nD τ), SemLoc.dma 14) 0) ∗ iprop(hbPt0 c hbM0_0 (V m c main_arg1) ∗ hbPt0 c hbM0_1 (V m c main_arg3) ∗ hbPt0 c hbM0_2 (V m c main_arg5) ∗ hbPt0 c hbM0_3 (V m c main_arg7) ∗ hbPt0 c hbM0_4 (V m c main_arg9) ∗ hbPt0 c hbM0_5 (V m c main_arg11) ∗ hbPt0 c hbM0_6 (V m c main_arg13))) := by
  cases n with
  | zero => exact absurd rfl hz
  | succ n => rfl

/-! ## The pipeline's proof data -/

/-- The pipeline's data on core `c`: the arrays as the launch leaves them, and after the body at point `t` each input's buffer at its block
    and the three outputs' at `xt`, `ze` and `zq`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => xt m c t
    | ⟨8, _⟩ => ze m c t
    | ⟨9, _⟩ => zq m c t
  Φ t := PhiS m c t.val (Nat.le_of_lt_succ t.isLt)
  q _ := fullShare
  owed _ := 0

/-- The data's arrays are what the launch leaves. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- What window 1 holds after a point. -/
theorem after0_1 (c : Dev nD) (t : Fin cfg0.N) : (dats m 0 c).after 1 t = iblk m c 1 t := by dsimp only [dats]
/-- What window 2 holds after a point. -/
theorem after0_2 (c : Dev nD) (t : Fin cfg0.N) : (dats m 0 c).after 2 t = iblk m c 2 t := by dsimp only [dats]
/-- What window 3 holds after a point. -/
theorem after0_3 (c : Dev nD) (t : Fin cfg0.N) : (dats m 0 c).after 3 t = iblk m c 3 t := by dsimp only [dats]
/-- What window 4 holds after a point. -/
theorem after0_4 (c : Dev nD) (t : Fin cfg0.N) : (dats m 0 c).after 4 t = iblk m c 4 t := by dsimp only [dats]
/-- What window 5 holds after a point. -/
theorem after0_5 (c : Dev nD) (t : Fin cfg0.N) : (dats m 0 c).after 5 t = iblk m c 5 t := by dsimp only [dats]
/-- What window 6 holds after a point. -/
theorem after0_6 (c : Dev nD) (t : Fin cfg0.N) : (dats m 0 c).after 6 t = iblk m c 6 t := by dsimp only [dats]
/-- What window 7 holds after a point. -/
theorem after0_7 (c : Dev nD) (t : Fin cfg0.N) : (dats m 0 c).after 7 t = xt m c t := by dsimp only [dats]
/-- What window 8 holds after a point. -/
theorem after0_8 (c : Dev nD) (t : Fin cfg0.N) : (dats m 0 c).after 8 t = ze m c t := by dsimp only [dats]
/-- What window 9 holds after a point. -/
theorem after0_9 (c : Dev nD) (t : Fin cfg0.N) : (dats m 0 c).after 9 t = zq m c t := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
/-- What window 1 holds before a point. -/
theorem before0_1 (c : Dev nD) (t : Fin cfg0.N) (d) : (dats m 0 c).before 1 t d = iblk m c 1 t :=
  before0_1_of m (dats m 0 c) (A_eq m c 1) (after0_1 m c) t d
/-- What window 2 holds before a point. -/
theorem before0_2 (c : Dev nD) (t : Fin cfg0.N) (d) : (dats m 0 c).before 2 t d = iblk m c 2 t :=
  before0_2_of m (dats m 0 c) (A_eq m c 2) (after0_2 m c) t d
/-- What window 3 holds before a point. -/
theorem before0_3 (c : Dev nD) (t : Fin cfg0.N) (d) : (dats m 0 c).before 3 t d = iblk m c 3 t :=
  before0_3_of m (dats m 0 c) (A_eq m c 3) (after0_3 m c) t d
/-- What window 4 holds before a point. -/
theorem before0_4 (c : Dev nD) (t : Fin cfg0.N) (d) : (dats m 0 c).before 4 t d = iblk m c 4 t :=
  before0_4_of m (dats m 0 c) (A_eq m c 4) (after0_4 m c) t d
/-- What window 5 holds before a point. -/
theorem before0_5 (c : Dev nD) (t : Fin cfg0.N) (d) : (dats m 0 c).before 5 t d = iblk m c 5 t :=
  before0_5_of m (dats m 0 c) (A_eq m c 5) (after0_5 m c) t d
/-- What window 6 holds before a point. -/
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 16000000 in
/-- The body at any point: the first point's run from the kept arrays at anything, a later point's from what the first left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = PhiS m c (t.val + 1) t.isLt from rfl, PhiS_succ,
    after0_0, after0_1, after0_2, after0_3, after0_4, after0_5, after0_6, after0_7, after0_8, after0_9]
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  by_cases h0 : t.val % 8 = 0
  · by_cases hz : t.val = 0
    · rw [PhiS_castSucc m c t, PhiS_zero m c _ _ hz, PhiD0_eq]
      iintro ⟨⟨⟨HS0, HS1, HS2, HS3, HS4, HS5, HS6, HS7, HS8, HS9⟩, Hg, Hq0, ⟨Hh0, Hh1, Hh2, Hh3, Hh4, Hh5, Hh6⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runA m c t h0).2.2.2.2.2.2.2.2.2.2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [Hq0]; · iexact Hq0
      isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [Hh6]; · iexact Hh6
      isplitl [HW]; · iexact HW
      iintro ⟨H0, H1, H2, H3, H4, H5, H6, ⟨%e7, H7⟩, ⟨%e8, H8⟩, ⟨%e9, H9⟩, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%fT9, HS9⟩, Hq0, Hh0, Hh1, Hh2, Hh3, Hh4, Hh5, Hh6, ⟨%W', HW'⟩⟩
      isplitl [HS0 HS1 HS2 HS3 HS4 HS5 HS6 HS7 HS8 HS9 Hg Hq0 Hh0 Hh1 Hh2 Hh3 Hh4 Hh5 Hh6]
      · isplitl [HS0 HS1 HS2 HS3 HS4 HS5 HS6 HS7 HS8 HS9]
        · isplitl [HS0]
          · unfold owns; iexists _; isplitr
            swap; · iexact HS0
            ipureintro; exact keptA0 m c t h0 _
          isplitl [HS1]
          · unfold owns; iexists _; isplitr
            swap; · iexact HS1
            ipureintro; exact keptA1 m c t h0 _
          isplitl [HS2]
          · unfold owns; iexists _; isplitr
            swap; · iexact HS2
            ipureintro; exact keptA2 m c t h0 _
          isplitl [HS3]
          · unfold owns; iexists _; isplitr
            swap; · iexact HS3
            ipureintro; exact keptA3 m c t h0 _
          isplitl [HS4]
          · unfold owns; iexists _; isplitr
            swap; · iexact HS4
            ipureintro; exact keptA4 m c t h0 _
          isplitl [HS5]
          · unfold owns; iexists _; isplitr
            swap; · iexact HS5
            ipureintro; exact keptA5 m c t h0 _
          isplitl [HS6]
          · unfold owns; iexists _; isplitr
            swap; · iexact HS6
            ipureintro; exact keptA6 m c t h0 _
          isplitl [HS7]
          · unfold owns; iexists _; isplitr
            swap; · iexact HS7
            ipureintro; exact keptA7 m c t h0 _
          isplitl [HS8]
          · unfold owns; iexists _; isplitr
            swap; · iexact HS8
            ipureintro; exact keptA8 m c t h0 _
          iexists _; unfold owns; iexists _; isplitr
          swap; · iexact HS9
          ipureintro; rfl
        isplitl [Hg]
        · iexact Hg
        isplitl [Hq0]
        · iexact Hq0
        isplitl [Hh0]; · iexact Hh0
        isplitl [Hh1]; · iexact Hh1
        isplitl [Hh2]; · iexact Hh2
        isplitl [Hh3]; · iexact Hh3
        isplitl [Hh4]; · iexact Hh4
        isplitl [Hh5]; · iexact Hh5
        iexact Hh6
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact (View.read_writes_of_cover _ _ VO0_7 VO0_7.junk _ (coverA7 m c t h0)).trans (outA7 m c t h0 _)
      isplitl [H8]
      · unfold owns; iexists _; isplitr
        swap; · iexact H8
        ipureintro; exact (View.read_writes_of_cover _ _ VO0_8 VO0_8.junk _ (coverA8 m c t h0)).trans (outA8 m c t h0 _)
      unfold owns; iexists _; isplitr
      swap; · iexact H9
      ipureintro; exact (View.read_writes_of_cover _ _ VO0_9 VO0_9.junk _ (coverA9 m c t h0)).trans (outA9 m c t h0 _)
    · exfalso; have hN : t.val < 8 := lt_of_lt_of_eq t.isLt (show cfg0.N = 8 from N_0); omega
  · by_cases hz : t.val = 0
    · exfalso; have hN : t.val < 8 := lt_of_lt_of_eq t.isLt (show cfg0.N = 8 from N_0); omega
    · rw [PhiS_castSucc m c t, PhiS_pos m c _ _ hz]
      iintro ⟨⟨⟨HS0, HS1, HS2, HS3, HS4, HS5, HS6, HS7, HS8, HS9⟩, Hg, Hq0, ⟨Hh0, Hh1, Hh2, Hh3, Hh4, Hh5, Hh6⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runB m c t h0).2.2.2.2.2.2.2.2.2.2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [Hq0]; · iexact Hq0
      isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [Hh6]; · iexact Hh6
      isplitl [HW]; · iexact HW
      iintro ⟨H0, H1, H2, H3, H4, H5, H6, ⟨%e7, H7⟩, ⟨%e8, H8⟩, ⟨%e9, H9⟩, HS0, HS1, HS2, HS3, HS4, HS5, HS6, HS7, HS8, HS9, Hq0, Hh0, Hh1, Hh2, Hh3, Hh4, Hh5, Hh6, ⟨%W', HW'⟩⟩
      isplitl [HS0 HS1 HS2 HS3 HS4 HS5 HS6 HS7 HS8 HS9 Hg Hq0 Hh0 Hh1 Hh2 Hh3 Hh4 Hh5 Hh6]
      · isplitl [HS0 HS1 HS2 HS3 HS4 HS5 HS6 HS7 HS8 HS9]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          iexact HS9
        isplitl [Hg]
        · iexact Hg
        isplitl [Hq0]
        · iexact Hq0
        isplitl [Hh0]; · iexact Hh0
        isplitl [Hh1]; · iexact Hh1
        isplitl [Hh2]; · iexact Hh2
        isplitl [Hh3]; · iexact Hh3
        isplitl [Hh4]; · iexact Hh4
        isplitl [Hh5]; · iexact Hh5
        iexact Hh6
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact (View.read_writes_of_cover _ _ VO0_7 VO0_7.junk _ (coverB7 m c t h0)).trans (outB7 m c t h0 _)
      isplitl [H8]
      · unfold owns; iexists _; isplitr
        swap; · iexact H8
        ipureintro; exact (View.read_writes_of_cover _ _ VO0_8 VO0_8.junk _ (coverB8 m c t h0)).trans (outB8 m c t h0 _)
      unfold owns; iexists _; isplitr
      swap; · iexact H9
      ipureintro; exact (View.read_writes_of_cover _ _ VO0_9 VO0_9.junk _ (coverB9 m c t h0)).trans (outB9 m c t h0 _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3, HS4, HS5, HS6, HS7, HS8, HS9⟩, Hg, Hq0, ⟨Hh0, Hh1, Hh2, Hh3, Hh4, Hh5, Hh6⟩⟩
  isplitl [HS0 HS1 HS2 HS3 HS4 HS5 HS6 HS7 HS8 HS9]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    isplitl [HS6]
    · iexists _; iexact HS6
    isplitl [HS7]
    · iexists _; iexact HS7
    isplitl [HS8]
    · iexists _; iexact HS8
    iexact HS9
  isplitl [Hg]; · iexact Hg
  isplitl [Hq0]
  · iexact Hq0
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  iexact Hh6

/-- The same after the last point. -/
theorem hout (c : Dev nD) : (dats m 0 c).Φ (Fin.last cfg0.N) ⊢ Pipeline.ΦD osem0 spec0 H0 (V m) c :=
  Phi_out m c _ (by rw [Fin.val_last]; have : cfg0.N = 8 := N_0; omega)

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- The frame: the run terminates, the argument arrays end unchanged and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.Proof.Run

end
-- ==== Proof.Ref.lean ====
/-
  The reference's run, stated by hand: its operations in order, and what the three result buffers hold after them as functions of
  the argument arrays — the encoder, the squared distances, the nearest code's number, the lookup, the straight-through
  sum and the decoder, each one definition below. For any float values.
-/
module

public import proofs.«01_k».proof.Defs
public import proofs.«01_k».proof.Proof.Gen.ReferenceIdeal
public import Idealize.ShloMosaic.Lib.StableHlo.Run
public import Idealize.ShloMosaic.Lib.Pipeline.Frame

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- max(a, 0), entry by entry. -/
def relu (a : FVec F S4096x1024 .f32) : FVec F S4096x1024 .f32 :=
  maximumf a (broadcastInDim S4096x1024 ![] bcast_S_S4096x1024 (constant S_ .f32 0x00000000#32))

/-- A bias of 1024 entries as an array of 4096 equal rows. -/
def rows (b : FVec F S1024 .f32) : FVec F S4096x1024 .f32 :=
  broadcastInDim S4096x1024 ![0, 1] bcast_S1x1024_S4096x1024_0_1 (broadcastInDim S1x1024 ![1] bcast_S1024_S1x1024_1 b)

/-- a·W + b for a 1024 × 1024 weight. -/
def dense (a : FVec F S4096x1024 .f32) (W : FVec F S1024x1024 .f32) (b : FVec F S1024 .f32) : FVec F S4096x1024 .f32 :=
  addf (Host.dotGeneral dot_S4096x1024_S1024x1024_S4096x1024_1_0_0_1_n_n none a W) (rows b)

/-- The encoder: two dense layers with max(·, 0), then one to the 256 entries of a code. -/
def enc (x : FVec F S4096x1024 .f32) (W1 : FVec F S1024x1024 .f32) (b1 : FVec F S1024 .f32) (W2 : FVec F S1024x1024 .f32)
    (b2 : FVec F S1024 .f32) (W3 : FVec F S1024x256 .f32) (b3 : FVec F S256 .f32) : FVec F S4096x256 .f32 :=
  addf (Host.dotGeneral dot_S4096x1024_S1024x256_S4096x256_1_0_0_1_n_n none (relu (dense (relu (dense x W1 b1)) W2 b2)) W3)
    (broadcastInDim S4096x256 ![0, 1] bcast_S1x256_S4096x256_0_1 (broadcastInDim S1x256 ![1] bcast_S256_S1x256_1 b3))

/-- The squared distances of every row of z to every code, expanded: |z|² + |c|² − 2 z·c. -/
def dist (z : FVec F S4096x256 .f32) (cb : FVec F S1024x256 .f32) : FVec F S4096x1024 .f32 :=
  subf
    (addf
      (broadcastInDim S4096x1024 ![0, 1] bcast_S4096x1_S4096x1024_0_1 (broadcastInDim S4096x1 ![0] bcast_S4096_S4096x1_0
        (Host.reduceAdd (mulf z z) (constant S_ .f32 0x00000000#32) reducesTo_S4096x256_S4096_d1 h_S_)))
      (rows (Host.reduceAdd (mulf cb cb) (constant S_ .f32 0x00000000#32) reducesTo_S1024x256_S1024_d1 h_S_)))
    (mulf (broadcastInDim S4096x1024 ![] bcast_S_S4096x1024 (constant S_ .f32 0x40000000#32))
      (Host.dotGeneral dot_S4096x256_S256x1024_S4096x1024_1_0_0_1_n_n none z (transpose S256x1024 [1, 0] cb transposes_S1024x256_S256x1024_1_0)))

/-- The numbers an arg-min along some axes returns, at any shapes. -/
def argmin {s t u : Shape} {axes : List (Fin s.rank)} (x : FVec F s .f32) (y : IVec s 32) (v : FVec F u .f32) (w : IVec u 32)
    (h : s.ReducesTo axes t) (hu : 0 < u.numel) : IVec t 32 :=
  fun j => (Host.argReduce reducer_argmin_f32_i32 x y v w h hu j).2

/-- The number of the nearest code of each row: the arg-min of its distances. -/
def nearest (d : FVec F S4096x1024 .f32) : IVec S4096 32 :=
  argmin d (iotaInDim S4096x1024 32 1) (constant S_ .f32 0x7F800000#32) (constantI S_ 32 0#32) reducesTo_S4096x1024_S4096_d1 h_S_

/-- The row numbers the lookup reads at: a negative one counted from the end. -/
def wrapped (i : IVec S4096 32) : IVec S4096x1 32 :=
  broadcastInDim S4096x1 ![0] bcast_S4096_S4096x1_0
    (select (cmpi .slt i (broadcastInDim S4096 ![] bcast_S_S4096 (constantI S_ 32 0#32)))
      (addi i (broadcastInDim S4096 ![] bcast_S_S4096 (constantI S_ 32 1024#32))) i)

/-- Whether each row number names a row of the table. -/
def inTable (w : IVec S4096x1 32) : IVec S4096 1 :=
  Host.reduce IntOp.andi
    (andi (cmpi .sge w (broadcastInDim S4096x1 ![] bcast_S_S4096x1 (constantI S_ 32 0#32)))
      (cmpi .sle w (broadcastInDim S4096x1 ![0, 1] bcast_S1x1_S4096x1_0_1
        (broadcastInDim S1x1 ![1] bcast_S1_S1x1_1 (constantI S1 32 1023#32)))))
    (constantI S_ 1 1#1) reducesTo_S4096x1_S4096_d1 h_S_

/-- The lookup of rows of the codebook; a number outside the table reads the fill value. -/
def take (cb : FVec F S1024x256 .f32) (i : IVec S4096 32) : FVec F S4096x256 .f32 :=
  select (broadcastInDim S4096x256 ![0] bcast_S4096_S4096x256_0 (inTable (wrapped i)))
    (Host.gather gather_S1024x256_S4096x1_S4096x256_1_0_n_n_0_1_1256 cb (wrapped i))
    (broadcastInDim S4096x256 ![] bcast_S_S4096x256 (constant S_ .f32 0x7FC00000#32))

/-- The straight-through sum z + (q − z). -/
def straight (z q : FVec F S4096x256 .f32) : FVec F S4096x256 .f32 := addf z (subf q z)

/-- The decoder. -/
def dec (q : FVec F S4096x256 .f32) (W1 : FVec F S256x1024 .f32) (b1 : FVec F S1024 .f32) (W2 : FVec F S1024x1024 .f32)
    (b2 : FVec F S1024 .f32) (W3 : FVec F S1024x1024 .f32) (b3 : FVec F S1024 .f32) : FVec F S4096x1024 .f32 :=
  dense (relu (dense (relu (addf (Host.dotGeneral dot_S4096x256_S256x1024_S4096x1024_1_0_0_1_n_n none q W1) (rows b1))) W2 b2)) W3 b3

/-- The encoder's operations. -/
abbrev opsEnc : List (HloOp τ sig (Elt F)) :=
  [ binary main_arg0 main_arg1 main_v0 (fun l r => Host.dotGeneral dot_S4096x1024_S1024x1024_S4096x1024_1_0_0_1_n_n none l r),
    unary main_arg2 main_v1 (broadcastInDim S1x1024 ![1] bcast_S1024_S1x1024_1),
    unary main_v1 main_v2 (broadcastInDim S4096x1024 ![0, 1] bcast_S1x1024_S4096x1024_0_1),
    binary main_v0 main_v2 main_v3 addf,
    TRef.nullary main_call0.cst (constant S_ .f32 0x00000000#32),
    TRef.unary main_call0.cst main_call0.v0 (broadcastInDim S4096x1024 ![] bcast_S_S4096x1024),
    TRef.binary (.of main_v3) main_call0.v0 main_call0.v1 maximumf,
    binary main_v4 main_arg3 main_v5 (fun l r => Host.dotGeneral dot_S4096x1024_S1024x1024_S4096x1024_1_0_0_1_n_n none l r),
    unary main_arg4 main_v6 (broadcastInDim S1x1024 ![1] bcast_S1024_S1x1024_1),
    unary main_v6 main_v7 (broadcastInDim S4096x1024 ![0, 1] bcast_S1x1024_S4096x1024_0_1),
    binary main_v5 main_v7 main_v8 addf,
    TRef.nullary main_call1.cst (constant S_ .f32 0x00000000#32),
    TRef.unary main_call1.cst main_call1.v0 (broadcastInDim S4096x1024 ![] bcast_S_S4096x1024),
    TRef.binary (.of main_v8) main_call1.v0 main_call1.v1 maximumf,
    binary main_v9 main_arg5 main_v10 (fun l r => Host.dotGeneral dot_S4096x1024_S1024x256_S4096x256_1_0_0_1_n_n none l r),
    unary main_arg6 main_v11 (broadcastInDim S1x256 ![1] bcast_S256_S1x256_1),
    unary main_v11 main_v12 (broadcastInDim S4096x256 ![0, 1] bcast_S1x256_S4096x256_0_1),
    binary main_v10 main_v12 main_v13 addf ]

/-- The squared distances' operations. -/
abbrev opsDist : List (HloOp τ sig (Elt F)) :=
  [ binary main_arg13 main_arg13 main_v14 mulf,
    nullary main_cst (constant S_ .f32 0x00000000#32),
    binary main_v14 main_cst main_v15 (fun x v => Host.reduceAdd x v reducesTo_S1024x256_S1024_d1 h_S_),
    binary main_v13 main_v13 main_v16 mulf,
    nullary main_cst_0 (constant S_ .f32 0x00000000#32),
    binary main_v16 main_cst_0 main_v17 (fun x v => Host.reduceAdd x v reducesTo_S4096x256_S4096_d1 h_S_),
    unary main_v17 main_v18 (broadcastInDim S4096x1 ![0] bcast_S4096_S4096x1_0),
    unary main_v15 main_v19 (broadcastInDim S1x1024 ![1] bcast_S1024_S1x1024_1),
    unary main_v18 main_v20 (broadcastInDim S4096x1024 ![0, 1] bcast_S4096x1_S4096x1024_0_1),
    unary main_v19 main_v21 (broadcastInDim S4096x1024 ![0, 1] bcast_S1x1024_S4096x1024_0_1),
    binary main_v20 main_v21 main_v22 addf,
    unary main_arg13 main_v23 (transpose S256x1024 [1, 0] · transposes_S1024x256_S256x1024_1_0),
    binary main_v13 main_v23 main_v24 (fun l r => Host.dotGeneral dot_S4096x256_S256x1024_S4096x1024_1_0_0_1_n_n none l r),
    nullary main_cst_1 (constant S_ .f32 0x40000000#32),
    unary main_cst_1 main_v25 (broadcastInDim S4096x1024 ![] bcast_S_S4096x1024),
    binary main_v25 main_v24 main_v26 mulf,
    binary main_v22 main_v26 main_v27 subf ]

/-- The arg-min's operations. -/
abbrev opsNear : List (HloOp τ sig (Elt F)) :=
  [ TRef.nullary main_call2.v0 (iotaInDim S4096x1024 32 1),
    TRef.nullary main_call2.cst (constant S_ .f32 0x7F800000#32),
    TRef.nullary main_call2.c (constantI S_ 32 0#32),
    TRef.quaternary (.of main_v27) main_call2.v0 main_call2.cst main_call2.c main_call2.v1_0 (fun x y u v j => (Host.argReduce reducer_argmin_f32_i32 x y u v reducesTo_S4096x1024_S4096_d1 h_S_ j).1),
    TRef.quaternary (.of main_v27) main_call2.v0 main_call2.cst main_call2.c main_call2.v1_1 (fun x y u v j => (Host.argReduce reducer_argmin_f32_i32 x y u v reducesTo_S4096x1024_S4096_d1 h_S_ j).2) ]

/-- The first lookup's operations. -/
abbrev opsLook1 : List (HloOp τ sig (Elt F)) :=
  [ TRef.nullary main_call3.c (constantI S_ 32 0#32),
    TRef.unary main_call3.c main_call3.v0 (broadcastInDim S4096 ![] bcast_S_S4096),
    TRef.binary (.of main_v28) main_call3.v0 main_call3.v1 (cmpi .slt),
    TRef.nullary main_call3.c_0 (constantI S_ 32 1024#32),
    TRef.unary main_call3.c_0 main_call3.v2 (broadcastInDim S4096 ![] bcast_S_S4096),
    TRef.binary (.of main_v28) main_call3.v2 main_call3.v3 addi,
    TRef.ternary main_call3.v1 main_call3.v3 (.of main_v28) main_call3.call0.v0 select,
    TRef.unary main_call3.call0.v0 main_call3.v5 (broadcastInDim S4096x1 ![0] bcast_S4096_S4096x1_0),
    TRef.nullary main_call3.c_1 (constantI S1 32 1023#32),
    TRef.nullary main_call3.c_2 (constantI S_ 32 0#32),
    TRef.unary main_call3.c_2 main_call3.v6 (broadcastInDim S4096x1 ![] bcast_S_S4096x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S4096x1 ![0, 1] bcast_S1x1_S4096x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S4096x1_S4096_d1 h_S_),
    TRef.binary (.of main_arg13) main_call3.v5 main_call3.v13 (fun x i => Host.gather gather_S1024x256_S4096x1_S4096x256_1_0_n_n_0_1_1256 x i),
    TRef.unary main_call3.v12 main_call3.v14 (broadcastInDim S4096x256 ![0] bcast_S4096_S4096x256_0),
    TRef.nullary main_call3.cst (constant S_ .f32 0x7FC00000#32),
    TRef.unary main_call3.cst main_call3.v15 (broadcastInDim S4096x256 ![] bcast_S_S4096x256),
    TRef.ternary main_call3.v14 main_call3.v13 main_call3.v15 main_call3.v16 select ]

/-- The straight-through sum's operations. -/
abbrev opsStraight : List (HloOp τ sig (Elt F)) :=
  [ binary main_v29 main_v13 main_v30 subf,
    binary main_v13 main_v30 main_v31 addf ]

/-- The second lookup's operations. -/
abbrev opsLook2 : List (HloOp τ sig (Elt F)) :=
  [ TRef.nullary main_call4.c (constantI S_ 32 0#32),
    TRef.unary main_call4.c main_call4.v0 (broadcastInDim S4096 ![] bcast_S_S4096),
    TRef.binary (.of main_v28) main_call4.v0 main_call4.v1 (cmpi .slt),
    TRef.nullary main_call4.c_0 (constantI S_ 32 1024#32),
    TRef.unary main_call4.c_0 main_call4.v2 (broadcastInDim S4096 ![] bcast_S_S4096),
    TRef.binary (.of main_v28) main_call4.v2 main_call4.v3 addi,
    TRef.ternary main_call4.v1 main_call4.v3 (.of main_v28) main_call4.call0.v0 select,
    TRef.unary main_call4.call0.v0 main_call4.v5 (broadcastInDim S4096x1 ![0] bcast_S4096_S4096x1_0),
    TRef.nullary main_call4.c_1 (constantI S1 32 1023#32),
    TRef.nullary main_call4.c_2 (constantI S_ 32 0#32),
    TRef.unary main_call4.c_2 main_call4.v6 (broadcastInDim S4096x1 ![] bcast_S_S4096x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S4096x1 ![0, 1] bcast_S1x1_S4096x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S4096x1_S4096_d1 h_S_),
    TRef.binary (.of main_arg13) main_call4.v5 main_call4.v13 (fun x i => Host.gather gather_S1024x256_S4096x1_S4096x256_1_0_n_n_0_1_1256 x i),
    TRef.unary main_call4.v12 main_call4.v14 (broadcastInDim S4096x256 ![0] bcast_S4096_S4096x256_0),
    TRef.nullary main_call4.cst (constant S_ .f32 0x7FC00000#32),
    TRef.unary main_call4.cst main_call4.v15 (broadcastInDim S4096x256 ![] bcast_S_S4096x256),
    TRef.ternary main_call4.v14 main_call4.v13 main_call4.v15 main_call4.v16 select ]

/-- The decoder's operations. -/
abbrev opsDec : List (HloOp τ sig (Elt F)) :=
  [ binary main_v31 main_arg7 main_v33 (fun l r => Host.dotGeneral dot_S4096x256_S256x1024_S4096x1024_1_0_0_1_n_n none l r),
    unary main_arg8 main_v34 (broadcastInDim S1x1024 ![1] bcast_S1024_S1x1024_1),
    unary main_v34 main_v35 (broadcastInDim S4096x1024 ![0, 1] bcast_S1x1024_S4096x1024_0_1),
    binary main_v33 main_v35 main_v36 addf,
    TRef.nullary main_call5.cst (constant S_ .f32 0x00000000#32),
    TRef.unary main_call5.cst main_call5.v0 (broadcastInDim S4096x1024 ![] bcast_S_S4096x1024),
    TRef.binary (.of main_v36) main_call5.v0 main_call5.v1 maximumf,
    binary main_v37 main_arg9 main_v38 (fun l r => Host.dotGeneral dot_S4096x1024_S1024x1024_S4096x1024_1_0_0_1_n_n none l r),
    unary main_arg10 main_v39 (broadcastInDim S1x1024 ![1] bcast_S1024_S1x1024_1),
    unary main_v39 main_v40 (broadcastInDim S4096x1024 ![0, 1] bcast_S1x1024_S4096x1024_0_1),
    binary main_v38 main_v40 main_v41 addf,
    TRef.nullary main_call6.cst (constant S_ .f32 0x00000000#32),
    TRef.unary main_call6.cst main_call6.v0 (broadcastInDim S4096x1024 ![] bcast_S_S4096x1024),
    TRef.binary (.of main_v41) main_call6.v0 main_call6.v1 maximumf,
    binary main_v42 main_arg11 main_v43 (fun l r => Host.dotGeneral dot_S4096x1024_S1024x1024_S4096x1024_1_0_0_1_n_n none l r),
    unary main_arg12 main_v44 (broadcastInDim S1x1024 ![1] bcast_S1024_S1x1024_1),
    unary main_v44 main_v45 (broadcastInDim S4096x1024 ![0, 1] bcast_S1x1024_S4096x1024_0_1),
    binary main_v43 main_v45 main_v46 addf ]

/-- @main's operations, in order, the functions it calls written out. -/
abbrev ops : List (HloOp τ sig (Elt F)) :=
  opsEnc ++ (opsDist ++ (opsNear ++ (opsLook1 ++ (opsStraight ++ (opsLook2 ++ (opsDec))))))

set_option maxRecDepth 16384 in
set_option maxHeartbeats 4000000 in
/-- @main is that straight line. -/
theorem main_eq (c : Dev nD) : main (F := F) c = seq ops := by
  simp only [main, fn_relu.body, fn_argmin.body, fn_where.body, fn_take.body, ops, List.cons_append, List.nil_append, seq, bind_assoc, pure_bind]
  rfl

set_option maxRecDepth 16384 in
set_option maxHeartbeats 4000000 in
/-- What the operations of this part leave as it was. -/
theorem keepEnc (V : Valuation τ sig (Elt F)) : ∀ b ∈ ([main_arg0, main_arg1, main_arg2, main_arg3, main_arg4, main_arg5, main_arg6, main_arg7, main_arg8, main_arg9, main_arg10, main_arg11, main_arg12, main_arg13] : List (DevRef τ sig)), after opsEnc V b = V b := by
  simp only [List.forall_mem_cons, List.not_mem_nil, false_imp_iff, implies_true, and_true]
  refine ⟨?_, ?_, ?_, ?_, ?_, ?_, ?_, ?_, ?_, ?_, ?_, ?_, ?_, ?_⟩ <;> after_results_simp

set_option maxRecDepth 16384 in
set_option maxHeartbeats 4000000 in
/-- What the operations of this part leave as it was. -/
theorem keepDist (V : Valuation τ sig (Elt F)) : ∀ b ∈ ([main_arg0, main_arg1, main_arg2, main_arg3, main_arg4, main_arg5, main_arg6, main_arg7, main_arg8, main_arg9, main_arg10, main_arg11, main_arg12, main_arg13, main_v13] : List (DevRef τ sig)), after opsDist V b = V b := by
  simp only [List.forall_mem_cons, List.not_mem_nil, false_imp_iff, implies_true, and_true]
  refine ⟨?_, ?_, ?_, ?_, ?_, ?_, ?_, ?_, ?_, ?_, ?_, ?_, ?_, ?_, ?_⟩ <;> after_results_simp

set_option maxRecDepth 16384 in
set_option maxHeartbeats 4000000 in
/-- What the operations of this part leave as it was. -/
theorem keepNear (V : Valuation τ sig (Elt F)) : ∀ b ∈ ([main_arg0, main_arg1, main_arg2, main_arg3, main_arg4, main_arg5, main_arg6, main_arg7, main_arg8, main_arg9, main_arg10, main_arg11, main_arg12, main_arg13, main_v13] : List (DevRef τ sig)), after opsNear V b = V b := by
  simp only [List.forall_mem_cons, List.not_mem_nil, false_imp_iff, implies_true, and_true]
  refine ⟨?_, ?_, ?_, ?_, ?_, ?_, ?_, ?_, ?_, ?_, ?_, ?_, ?_, ?_, ?_⟩ <;> after_results_simp

set_option maxRecDepth 16384 in
set_option maxHeartbeats 4000000 in
/-- What the operations of this part leave as it was. -/
theorem keepLook1 (V : Valuation τ sig (Elt F)) : ∀ b ∈ ([main_arg0, main_arg1, main_arg2, main_arg3, main_arg4, main_arg5, main_arg6, main_arg7, main_arg8, main_arg9, main_arg10, main_arg11, main_arg12, main_arg13, main_v13, main_v28] : List (DevRef τ sig)), after opsLook1 V b = V b := by
  simp only [List.forall_mem_cons, List.not_mem_nil, false_imp_iff, implies_true, and_true]
  refine ⟨?_, ?_, ?_, ?_, ?_, ?_, ?_, ?_, ?_, ?_, ?_, ?_, ?_, ?_, ?_, ?_⟩ <;> after_results_simp

set_option maxRecDepth 16384 in
set_option maxHeartbeats 4000000 in
/-- What the operations of this part leave as it was. -/
theorem keepStraight (V : Valuation τ sig (Elt F)) : ∀ b ∈ ([main_arg0, main_arg1, main_arg2, main_arg3, main_arg4, main_arg5, main_arg6, main_arg7, main_arg8, main_arg9, main_arg10, main_arg11, main_arg12, main_arg13, main_v13, main_v28, main_v29] : List (DevRef τ sig)), after opsStraight V b = V b := by
  simp only [List.forall_mem_cons, List.not_mem_nil, false_imp_iff, implies_true, and_true]
  refine ⟨?_, ?_, ?_, ?_, ?_, ?_, ?_, ?_, ?_, ?_, ?_, ?_, ?_, ?_, ?_, ?_, ?_⟩ <;> after_results_simp

set_option maxRecDepth 16384 in
set_option maxHeartbeats 4000000 in
/-- What the operations of this part leave as it was. -/
theorem keepLook2 (V : Valuation τ sig (Elt F)) : ∀ b ∈ ([main_arg0, main_arg1, main_arg2, main_arg3, main_arg4, main_arg5, main_arg6, main_arg7, main_arg8, main_arg9, main_arg10, main_arg11, main_arg12, main_arg13, main_v13, main_v31] : List (DevRef τ sig)), after opsLook2 V b = V b := by
  simp only [List.forall_mem_cons, List.not_mem_nil, false_imp_iff, implies_true, and_true]
  refine ⟨?_, ?_, ?_, ?_, ?_, ?_, ?_, ?_, ?_, ?_, ?_, ?_, ?_, ?_, ?_, ?_⟩ <;> after_results_simp

set_option maxRecDepth 16384 in
set_option maxHeartbeats 4000000 in
/-- What the operations of this part leave as it was. -/
theorem keepDec (V : Valuation τ sig (Elt F)) : ∀ b ∈ ([main_arg0, main_arg1, main_arg2, main_arg3, main_arg4, main_arg5, main_arg6, main_arg7, main_arg8, main_arg9, main_arg10, main_arg11, main_arg12, main_arg13, main_v13, main_v32] : List (DevRef τ sig)), after opsDec V b = V b := by
  simp only [List.forall_mem_cons, List.not_mem_nil, false_imp_iff, implies_true, and_true]
  refine ⟨?_, ?_, ?_, ?_, ?_, ?_, ?_, ?_, ?_, ?_, ?_, ?_, ?_, ?_, ?_, ?_⟩ <;> after_results_simp

set_option maxRecDepth 16384 in
set_option maxHeartbeats 4000000 in
/-- The encoder's part leaves z_e. -/
theorem ofEnc (V : Valuation τ sig (Elt F)) : after opsEnc V (main_v13 : DevRef τ sig) = enc (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  rfl

set_option maxRecDepth 16384 in
set_option maxHeartbeats 4000000 in
/-- The distances' part. -/
theorem ofDist (V : Valuation τ sig (Elt F)) : after opsDist V (main_v27 : DevRef τ sig) = dist (V (main_v13 : DevRef τ sig)) (V (main_arg13 : DevRef τ sig)) := by
  after_results_simp
  rfl

set_option maxRecDepth 16384 in
set_option maxHeartbeats 4000000 in
/-- The arg-min's part. -/
theorem ofNear (V : Valuation τ sig (Elt F)) : after opsNear V (main_v28 : DevRef τ sig) = nearest (V (main_v27 : DevRef τ sig)) := by
  after_results_simp
  rfl

set_option maxRecDepth 16384 in
set_option maxHeartbeats 4000000 in
/-- The first lookup's part. -/
theorem ofLook1 (V : Valuation τ sig (Elt F)) : after opsLook1 V (main_v29 : DevRef τ sig) = take (V (main_arg13 : DevRef τ sig)) (V (main_v28 : DevRef τ sig)) := by
  after_results_simp
  rfl

set_option maxRecDepth 16384 in
set_option maxHeartbeats 4000000 in
/-- The straight-through part. -/
theorem ofStraight (V : Valuation τ sig (Elt F)) : after opsStraight V (main_v31 : DevRef τ sig) = straight (V (main_v13 : DevRef τ sig)) (V (main_v29 : DevRef τ sig)) := by
  after_results_simp
  rfl

set_option maxRecDepth 16384 in
set_option maxHeartbeats 4000000 in
/-- The second lookup's part. -/
theorem ofLook2 (V : Valuation τ sig (Elt F)) : after opsLook2 V (main_v32 : DevRef τ sig) = take (V (main_arg13 : DevRef τ sig)) (V (main_v28 : DevRef τ sig)) := by
  after_results_simp
  rfl

set_option maxRecDepth 16384 in
set_option maxHeartbeats 4000000 in
/-- The decoder's part. -/
theorem ofDec (V : Valuation τ sig (Elt F)) : after opsDec V (main_v46 : DevRef τ sig) = dec (V (main_v31 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  after_results_simp
  rfl

/-- The whole line leaves the arguments as they were. -/
theorem kept (V : Valuation τ sig (Elt F)) : ∀ b ∈ ([main_arg0, main_arg1, main_arg2, main_arg3, main_arg4, main_arg5, main_arg6, main_arg7, main_arg8, main_arg9, main_arg10, main_arg11, main_arg12, main_arg13] : List (DevRef τ sig)), after ops V b = V b := by
  intro b hb
  have sub : ∀ l : List (DevRef τ sig), b ∈ ([main_arg0, main_arg1, main_arg2, main_arg3, main_arg4, main_arg5, main_arg6, main_arg7, main_arg8, main_arg9, main_arg10, main_arg11, main_arg12, main_arg13] : List (DevRef τ sig)) ++ l := fun l => List.mem_append_left l hb
  rw [ops, StableHlo.after_append, StableHlo.after_append, StableHlo.after_append, StableHlo.after_append, StableHlo.after_append,
    StableHlo.after_append]
  exact (keepDec _ b (sub _)).trans <| (keepLook2 _ b (sub _)).trans <| (keepStraight _ b (sub _)).trans <|
    (keepLook1 _ b (sub _)).trans <| (keepNear _ b (sub _)).trans <| (keepDist _ b (sub _)).trans <| keepEnc _ b hb

/-- What the three result buffers hold after the whole line, and that the arguments are kept on the way. -/
theorem results (V : Valuation τ sig (Elt F)) :
    after ops V (main_v13 : DevRef τ sig) = (enc (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)))
    ∧ after ops V (main_v32 : DevRef τ sig) = (take (V (main_arg13 : DevRef τ sig)) (nearest (dist (enc (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig))) (V (main_arg13 : DevRef τ sig)))))
    ∧ after ops V (main_v46 : DevRef τ sig) = dec (straight (enc (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig))) (take (V (main_arg13 : DevRef τ sig)) (nearest (dist (enc (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig))) (V (main_arg13 : DevRef τ sig)))))) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  have e := keepEnc V
  have d := keepDist (after opsEnc V)
  have n := keepNear (after opsDist (after opsEnc V))
  have l := keepLook1 (after opsNear (after opsDist (after opsEnc V)))
  have s := keepStraight (after opsLook1 (after opsNear (after opsDist (after opsEnc V))))
  have p := keepLook2 (after opsStraight (after opsLook1 (after opsNear (after opsDist (after opsEnc V)))))
  have q := keepDec (after opsLook2 (after opsStraight (after opsLook1 (after opsNear (after opsDist (after opsEnc V))))))
  simp only [List.forall_mem_cons, List.not_mem_nil, false_imp_iff, implies_true, and_true] at e d n l s p q
  rw [ops, StableHlo.after_append, StableHlo.after_append, StableHlo.after_append, StableHlo.after_append, StableHlo.after_append,
    StableHlo.after_append]
  have oe := ofEnc V
  have od := ofDist (after opsEnc V)
  have on := ofNear (after opsDist (after opsEnc V))
  have ol := ofLook1 (after opsNear (after opsDist (after opsEnc V)))
  have os := ofStraight (after opsLook1 (after opsNear (after opsDist (after opsEnc V))))
  have op := ofLook2 (after opsStraight (after opsLook1 (after opsNear (after opsDist (after opsEnc V)))))
  have oq := ofDec (after opsLook2 (after opsStraight (after opsLook1 (after opsNear (after opsDist (after opsEnc V))))))
  simp only [q, oq, p, op, s, os, l, ol, n, on, d, od, e, oe, and_self]

/-- Nothing is scoped in the reference. -/
theorem scopedRefs_eq : (Finset.univ.filter fun b : Ref sig .tc => b.isScoped) = ∅ := by decide
/-- The reference has no scoped semaphore. -/
theorem scopedSems_eq : (Finset.univ.filter fun sm : SemLoc sig => sm.isScoped .tc) = ∅ := by decide

/-- Every operation touches the core's own references only. -/
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    binary_bufs_sub .., nullary_bufs_sub .., binary_bufs_sub .., binary_bufs_sub .., nullary_bufs_sub .., binary_bufs_sub ..,
    unary_bufs_sub .., unary_bufs_sub .., unary_bufs_sub .., unary_bufs_sub .., binary_bufs_sub .., unary_bufs_sub .., binary_bufs_sub
    .., nullary_bufs_sub .., unary_bufs_sub .., binary_bufs_sub .., binary_bufs_sub .., nullary_bufs_sub .., nullary_bufs_sub ..,
    nullary_bufs_sub .., quaternary_bufs_sub .., quaternary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub ..⟩

/-- The reference's run: it terminates, and every buffer ends at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The reference's run read at its arguments and results: it terminates, the three results at the definitions above and the arguments
    as they were. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c.tc : Thread nD τ).loc main_v46) = dec (straight (enc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (take (m ((c.tc : Thread nD τ).loc main_arg13)) (nearest (dist (enc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg13)))))) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
        ∧ r.2.mem ((c.tc : Thread nD τ).loc main_v13) = (enc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
        ∧ r.2.mem ((c.tc : Thread nD τ).loc main_v32) = (take (m ((c.tc : Thread nD τ).loc main_arg13)) (nearest (dist (enc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg13))))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨⟨(h c main_v46).trans (results _).2.2, (h c main_v13).trans (results _).1, (h c main_v32).trans (results _).2.1⟩,
    (h c main_arg0).trans (kept _ _ (by simp)),
    (h c main_arg1).trans (kept _ _ (by simp)),
    (h c main_arg2).trans (kept _ _ (by simp)),
    (h c main_arg3).trans (kept _ _ (by simp)),
    (h c main_arg4).trans (kept _ _ (by simp)),
    (h c main_arg5).trans (kept _ _ (by simp)),
    (h c main_arg6).trans (kept _ _ (by simp)),
    (h c main_arg7).trans (kept _ _ (by simp)),
    (h c main_arg8).trans (kept _ _ (by simp)),
    (h c main_arg9).trans (kept _ _ (by simp)),
    (h c main_arg10).trans (kept _ _ (by simp)),
    (h c main_arg11).trans (kept _ _ (by simp)),
    (h c main_arg12).trans (kept _ _ (by simp)),
    (h c main_arg13).trans (kept _ _ (by simp))⟩) (run m ρ)

end Cert.Proof.Ref

end
-- ==== Proof.Math.lean ====
/-
  The mathematics on extended reals, one row of the input at a time: a three-layer net, the squared distance to a code,
  the number of the nearest code, and the facts about them that the two programs' texts differ by. No program is named.
-/
module

public import Idealize.ShloMosaic.PureOps
public import Idealize.ShloMosaic.PureOps.Ideal.Laws

@[expose] public section

noncomputable section

namespace Cert.Proof.Math

open scoped BigOperators
open Idealize.ShloMosaic

/-- A layer: x·W + b. -/
def lin {n p : ℕ} (W : Fin n → Fin p → EReal) (b : Fin p → EReal) (x : Fin n → EReal) (j : Fin p) : EReal :=
  ∑ k, x k * W k j + b j

/-- max(a, 0), entry by entry. -/
def pos {n : ℕ} (a : Fin n → EReal) (j : Fin n) : EReal := max (a j) 0

/-- Three layers with max(·, 0) after the first two. -/
def net {n h p : ℕ} (W1 : Fin n → Fin h → EReal) (b1 : Fin h → EReal) (W2 : Fin h → Fin h → EReal) (b2 : Fin h → EReal)
    (W3 : Fin h → Fin p → EReal) (b3 : Fin p → EReal) (x : Fin n → EReal) : Fin p → EReal :=
  lin W3 b3 (pos (lin W2 b2 (pos (lin W1 b1 x))))

/-- The squared distance of z to code k, expanded: |z|² + |c|² − 2 z·c. -/
def sqDist {n p : ℕ} (cb : Fin p → Fin n → EReal) (z : Fin n → EReal) (k : Fin p) : EReal :=
  (∑ d, z d * z d + ∑ d, cb k d * cb k d) - 2 * ∑ d, z d * cb k d

/-- Entry i is the least of d, and no earlier entry equals it. -/
def IsFirst {p : ℕ} (d : Fin p → EReal) (i : Fin p) : Prop := ∀ k, d i ≤ d k ∧ (d k = d i → i ≤ k)

/-- Only one entry is first. -/
theorem IsFirst.unique {p : ℕ} {d : Fin p → EReal} {i j : Fin p} (hi : IsFirst d i) (hj : IsFirst d j) : i = j := by
  have e : d i = d j := le_antisymm (hi j).1 (hj i).1
  exact le_antisymm ((hi j).2 e.symm) ((hj i).2 e)

/-- Some entry is first. -/
theorem exists_first {p : ℕ} (d : Fin (p + 1) → EReal) : ∃ i, IsFirst d i := by
  obtain ⟨i₀, _, h₀⟩ := Finset.exists_min_image (Finset.univ : Finset (Fin (p + 1))) d ⟨0, Finset.mem_univ _⟩
  let S := Finset.univ.filter fun k => d k = d i₀
  have hS : S.Nonempty := ⟨i₀, by simp [S]⟩
  have hm : d (S.min' hS) = d i₀ := by simpa [S] using S.min'_mem hS
  exact ⟨S.min' hS, fun k => ⟨hm ▸ h₀ k (Finset.mem_univ _), fun hk => S.min'_le k (by simp [S, hk, hm])⟩⟩

/-- The number of the first least entry. -/
def first {p : ℕ} (d : Fin (p + 1) → EReal) : Fin (p + 1) := (exists_first d).choose

/-- It is first. -/
theorem first_spec {p : ℕ} (d : Fin (p + 1) → EReal) : IsFirst d (first d) := (exists_first d).choose_spec

/-- The code nearest z. -/
def nearest {n p : ℕ} (cb : Fin (p + 1) → Fin n → EReal) (z : Fin n → EReal) : Fin n → EReal := cb (first (sqDist cb z))

/-! ## A row times a one-hot row -/

/-- Σ_k [k = i]·c_k is c_i. -/
theorem sum_oneHot {p : ℕ} (i : Fin p) (c : Fin p → EReal) : ∑ k, (if k = i then (1 : EReal) else 0) * c k = c i := by
  simp

/-! ## Finite values -/

/-- Neither infinity. -/
def Real (a : EReal) : Prop := ∃ r : ℝ, a = (r : EReal)

/-- Finiteness is what |a| < +∞ says. -/
theorem real_of_abs_lt {a : EReal} (h : max a (-a) < ⊤) : Real a := by
  induction a using EReal.rec with
  | bot => simp at h
  | top => simp at h
  | coe r => exact ⟨r, rfl⟩

/-- Zero is finite. -/
theorem Real.zero : Real 0 := ⟨0, rfl⟩

/-- So are sums of finite values, -/
theorem Real.add {a b : EReal} : Real a → Real b → Real (a + b) := by
  rintro ⟨r, rfl⟩ ⟨s, rfl⟩; exact ⟨r + s, (EReal.coe_add r s).symm⟩

/-- products, -/
theorem Real.mul {a b : EReal} : Real a → Real b → Real (a * b) := by
  rintro ⟨r, rfl⟩ ⟨s, rfl⟩; exact ⟨r * s, (EReal.coe_mul r s).symm⟩

/-- maxima, -/
theorem Real.max {a b : EReal} (ha : Real a) (hb : Real b) : Real (max a b) := by
  rcases max_choice a b with h | h <;> rw [h] <;> assumption

/-- and sums over an axis. -/
theorem Real.sum {n : ℕ} (f : Fin n → EReal) (h : ∀ k, Real (f k)) : Real (∑ k, f k) := by
  classical
  exact Finset.sum_induction f Real (fun _ _ => Real.add) Real.zero fun k _ => h k

/-- A layer of finite weights maps finite rows to finite rows. -/
theorem Real.lin {n p : ℕ} {W : Fin n → Fin p → EReal} {b : Fin p → EReal} {x : Fin n → EReal} (hW : ∀ k j, Real (W k j))
    (hb : ∀ j, Real (b j)) (hx : ∀ k, Real (x k)) (j : Fin p) : Real (lin W b x j) :=
  (Real.sum _ fun k => (hx k).mul (hW k j)).add (hb j)

/-- max(·, 0) maps finite rows to finite rows. -/
theorem Real.pos {n : ℕ} {a : Fin n → EReal} (ha : ∀ j, Real (a j)) (j : Fin n) : Real (pos a j) := (ha j).max Real.zero

/-- So does the net. -/
theorem Real.net {n h p : ℕ} {W1 : Fin n → Fin h → EReal} {b1 : Fin h → EReal} {W2 : Fin h → Fin h → EReal}
    {b2 : Fin h → EReal} {W3 : Fin h → Fin p → EReal} {b3 : Fin p → EReal} {x : Fin n → EReal}
    (h1 : ∀ k j, Real (W1 k j)) (hb1 : ∀ j, Real (b1 j)) (h2 : ∀ k j, Real (W2 k j)) (hb2 : ∀ j, Real (b2 j))
    (h3 : ∀ k j, Real (W3 k j)) (hb3 : ∀ j, Real (b3 j)) (hx : ∀ k, Real (x k)) (j : Fin p) :
    Real (net W1 b1 W2 b2 W3 b3 x j) :=
  Real.lin h3 hb3 (Real.pos (Real.lin h2 hb2 (Real.pos (Real.lin h1 hb1 hx)))) j

/-- The straight-through sum z + (q − z) is q where both are finite. -/
theorem straight {z q : EReal} : Real z → Real q → z + (q - z) = q := by
  rintro ⟨r, rfl⟩ ⟨s, rfl⟩
  rw [← EReal.coe_sub, ← EReal.coe_add]; congr 1; ring

/-- A finite value less itself is zero. -/
theorem sub_self {a : EReal} : Real a → a - a = 0 := by
  rintro ⟨r, rfl⟩; rw [← EReal.coe_sub]; simp

/-! ## The minimum of the numbers where the least value stands -/

/-- A fold of a choosing operation chooses one of the entries, or the initial value. -/
theorem fold_mem {α : Type} {n : ℕ} (op : α → α → α) [Std.Commutative op] [Std.Associative op]
    (hop : ∀ a b, op a b = a ∨ op a b = b) (init : α) (f : Fin n → α) :
    (Finset.univ : Finset (Fin n)).fold op init f = init ∨ ∃ k, (Finset.univ : Finset (Fin n)).fold op init f = f k := by
  classical
  induction (Finset.univ : Finset (Fin n)) using Finset.induction_on with
  | empty => exact Or.inl rfl
  | insert a s ha ih =>
    rw [Finset.fold_insert ha]
    rcases hop (f a) (s.fold op init f) with h | h <;> rw [h]
    · exact Or.inr ⟨a, rfl⟩
    · exact ih

/-- A fold of an operation below both its operands is below every entry. -/
theorem fold_le {α : Type} {n : ℕ} (op : α → α → α) [Std.Commutative op] [Std.Associative op] (v : α → ℤ)
    (hop : ∀ a b, v (op a b) ≤ v a ∧ v (op a b) ≤ v b) (init : α) (f : Fin n → α) (k : Fin n) :
    v ((Finset.univ : Finset (Fin n)).fold op init f) ≤ v (f k) := by
  classical
  suffices h : ∀ s : Finset (Fin n), k ∈ s → v (s.fold op init f) ≤ v (f k) from h _ (Finset.mem_univ k)
  intro s
  induction s using Finset.induction_on with
  | empty => intro h; exact absurd h (Finset.notMem_empty k)
  | insert a s ha ih =>
    intro h
    rw [Finset.fold_insert ha]
    rcases Finset.mem_insert.mp h with rfl | h
    · exact (hop _ _).1
    · exact (hop _ _).2.trans (ih h)

/-- The fold of min from +∞ is the value of the first least entry. -/
theorem fold_min {p : ℕ} (d : Fin (p + 1) → EReal) :
    (Finset.univ : Finset (Fin (p + 1))).fold min ⊤ d = d (first d) := by
  refine le_antisymm ?_ ?_
  · exact (Finset.fold_min_le (d (first d))).mpr (Or.inr ⟨first d, Finset.mem_univ _, le_rfl⟩)
  · exact (Finset.le_fold_min _).mpr ⟨le_top, fun k _ => (first_spec d k).1⟩

/-- The number of an entry as a word, read back. -/
theorem toInt_word {k : ℕ} (hk : k ≤ 1024) : (BitVec.ofNat 32 k).toInt = (k : ℤ) := by
  rw [BitVec.toInt_ofNat']
  have : (k : ℤ) % 2 ^ 32 = k := by omega
  rw [Int.bmod_def]; omega

/-- The signed minimum chooses. -/
theorem minsi_choice (a b : BitVec 32) : IntOp.minsi a b = a ∨ IntOp.minsi a b = b := by
  unfold IntOp.minsi; split <;> simp

/-- The signed minimum is below both. -/
theorem minsi_le (a b : BitVec 32) : (IntOp.minsi a b).toInt ≤ a.toInt ∧ (IntOp.minsi a b).toInt ≤ b.toInt := by
  unfold IntOp.minsi
  rw [BitVec.slt_eq_decide]
  split
  · rename_i h; simp at h; omega
  · rename_i h; simp at h; omega

/-- The least of the numbers k where c k holds, 1024 standing for the others, is the number of the first entry where c
    holds. -/
theorem fold_minsi [Std.Commutative (IntOp.minsi (w := 32))] [Std.Associative (IntOp.minsi (w := 32))]
    (d : Fin 1024 → EReal) (f : Fin 1024 → BitVec 32)
    (hf : ∀ k, f k = if d k = d (first d) then BitVec.ofNat 32 k.val else 1024#32) :
    (Finset.univ : Finset (Fin 1024)).fold IntOp.minsi 2147483647#32 f = BitVec.ofNat 32 (first d).val := by
  have hle := fold_le IntOp.minsi BitVec.toInt minsi_le 2147483647#32 f (first d)
  have hi := (first d).isLt
  have e : (f (first d)).toInt = ((first d).val : ℤ) := by
    rw [hf, if_pos rfl, toInt_word (by omega)]
  rw [e] at hle
  rcases fold_mem IntOp.minsi minsi_choice 2147483647#32 f with h | ⟨k, h⟩
  · rw [h] at hle
    have : (2147483647#32 : BitVec 32).toInt = 2147483647 := by decide
    omega
  · rw [h] at hle ⊢
    rw [hf k] at hle ⊢
    by_cases hk : d k = d (first d)
    · rw [if_pos hk] at hle ⊢
      rw [toInt_word (by have := k.isLt; omega)] at hle
      have := Fin.le_def.mp ((first_spec d k).2 hk)
      exact congrArg _ (by omega)
    · rw [if_neg hk] at hle
      have : (1024#32 : BitVec 32).toInt = 1024 := by decide
      omega

end Cert.Proof.Math
-- ==== Proof.Pays.lean ====
/-
  What one block's arithmetic computes on extended reals, row by row: the encoder, the distances, the one-hot row of the
  nearest code, the lookup and the decoder.
-/
module

public import proofs.«01_k».proof.Proof.Gen.KernelIdeal.Skeleton
public import proofs.«01_k».proof.Proof.Math
public import Idealize.ShloMosaic.Lib.MatmulPlain
public import Idealize.ShloMosaic.Lib.ValueIdxCore
public import Idealize.ShloMosaic.Lib.Pipeline.Value

@[expose] public section

set_option maxRecDepth 16384

noncomputable section

namespace Cert.Proof.Pays

open scoped BigOperators
open Cert.KernelIdeal Cert.KernelIdeal.Gen
open Idealize.ShloMosaic Idealize.ShloMosaic.ValueIdx
open Cert.Proof.Math

/-! ## Layouts -/

/-- A row repeated down the block, read at an entry. -/
theorem row_apply {m n : ℕ} {α : Type} (x : (⟨2, ![1, n]⟩ : Shape).Idx → α) (h : (⟨2, ![1, n]⟩ : Shape).Broadcasts ⟨2, ![m, n]⟩)
    (r : Fin m) (j : Fin n) : broadcastTo ⟨2, ![m, n]⟩ x h (ix2 r j) = x (ix2 0 j) :=
  broadcastTo_apply x h (ix2 r j) (ix2 0 j) fun a => by
    match a with
    | ⟨0, _⟩ => rfl
    | ⟨1, _⟩ =>
      show j.val = if n = 1 then 0 else j.val
      split
      · have := j.isLt; omega
      · rfl

/-- A column repeated along the block, read at an entry. -/
theorem col_apply {m n : ℕ} {α : Type} (x : (⟨2, ![m, 1]⟩ : Shape).Idx → α) (h : (⟨2, ![m, 1]⟩ : Shape).Broadcasts ⟨2, ![m, n]⟩)
    (r : Fin m) (j : Fin n) : broadcastTo ⟨2, ![m, n]⟩ x h (ix2 r j) = x (ix2 r 0) :=
  broadcastTo_apply x h (ix2 r j) (ix2 r 0) fun a => by
    match a with
    | ⟨0, _⟩ =>
      show r.val = if m = 1 then 0 else r.val
      split
      · have := r.isLt; omega
      · rfl
    | ⟨1, _⟩ => rfl

/-- A vector stood up as a column, read at an entry. -/
theorem asCol_apply {m : ℕ} {α : Type} (x : (⟨1, ![m]⟩ : Shape).Idx → α) (h : (⟨1, ![m]⟩ : Shape).ShapeCasts ⟨2, ![m, 1]⟩)
    (r : Fin m) (j : Fin 1) : shapeCast ⟨2, ![m, 1]⟩ x h (ix2 r j) = x (ix1 r) :=
  shapeCast_apply x h (ix2 r j) (ix1 r) (by
    rw [Shape.rowMajor_val_two, Shape.rowMajor_val_one]; show r.val = r.val * 1 + j.val; omega)

/-- A vector laid down as a row, read at an entry. -/
theorem asRow_apply {n : ℕ} {α : Type} (x : (⟨1, ![n]⟩ : Shape).Idx → α) (h : (⟨1, ![n]⟩ : Shape).ShapeCasts ⟨2, ![1, n]⟩)
    (j : Fin n) : shapeCast ⟨2, ![1, n]⟩ x h (ix2 0 j) = x (ix1 j) :=
  shapeCast_apply x h (ix2 0 j) (ix1 j) (by
    rw [Shape.rowMajor_val_two, Shape.rowMajor_val_one]; show j.val = 0 * n + j.val; omega)

/-- A reduction along the rows inserts the column. -/
theorem lift_row {m n : ℕ} (h : (⟨2, ![m, n]⟩ : Shape).Reduces [1] ⟨1, ![m]⟩) (r : Fin m) (k : Fin n) :
    h.lift (ix1 r) k = ix2 r k := by
  refine Shape.idx_ext₂ ?_ ?_
  · show h.liftVal (ix1 r) k.val 0 = r.val
    simp [Shape.Reduces.liftVal]
  · show h.liftVal (ix1 r) k.val 1 = k.val
    simp [Shape.Reduces.liftVal]

/-! ## A layer of the net on a block -/

/-- The entries of a block or a weight, by row and column. -/
abbrev at2 {m n : ℕ} (a : (⟨2, ![m, n]⟩ : Shape).Idx → EReal) (r : Fin m) (j : Fin n) : EReal := a (ix2 r j)

/-- A product onto zero plus a bias row is a layer, row by row. -/
theorem layer {M K N : ℕ} {φ₁ φ₂ : FTy} (x : FVec Ideal ⟨2, ![M, K]⟩ φ₁) (w : FVec Ideal ⟨2, ![K, N]⟩ φ₂)
    (b : FVec Ideal ⟨2, ![1, N]⟩ .f32) (h : (⟨2, ![1, N]⟩ : Shape).Broadcasts ⟨2, ![M, N]⟩) (r : Fin M) (j : Fin N) :
    addf (F := Ideal) (matmul (F := Ideal) (DotDims.plain M K N) none x w (constant (F := Ideal) ⟨2, ![M, N]⟩ .f32 0x00000000#32))
      (broadcastTo ⟨2, ![M, N]⟩ b h) (ix2 r j) = lin (at2 w) (at2 b 0) (at2 x r) j := by
  show FloatOps.matmul (DotDims.plain M K N) none x w _ (ix2 r j) + broadcastTo ⟨2, ![M, N]⟩ b h (ix2 r j) = _
  rw [Ideal.matmul_plain_apply, row_apply]
  show Ideal.ofBits .f32 0x00000000#32 + _ + _ = _
  rw [Ideal.ofBits_zero_f32, zero_add]
  rfl

/-- max with a splat of zero is max(·, 0), row by row. -/
theorem pos_apply {M N : ℕ} (x : FVec Ideal ⟨2, ![M, N]⟩ .f32) (f : Fin N → EReal) (r : Fin M) (hx : ∀ j, x (ix2 r j) = f j)
    (j : Fin N) : maximumf (F := Ideal) x (broadcast ⟨2, ![M, N]⟩ (Scalar.ofBits (F := Ideal) .f32 0x00000000#32)) (ix2 r j) = pos f j := by
  show max (x (ix2 r j)) (Ideal.ofBits .f32 0x00000000#32) = _
  rw [Ideal.ofBits_zero_f32, hx]; rfl

/-- A block's row by its entries. -/
theorem row_eq {M N : ℕ} (x : FVec Ideal ⟨2, ![M, N]⟩ .f32) (f : Fin N → EReal) (r : Fin M) (hx : ∀ j, x (ix2 r j) = f j) :
    at2 x r = f := funext hx

/-- The encoder on a block: the net of each of its rows. -/
theorem pay12_apply (x : FVec Ideal S512x1024 .f32) (w1 : FVec Ideal S1024x1024 .bf16) (b1 : FVec Ideal S1x1024 .f32)
    (w2 : FVec Ideal S1024x1024 .bf16) (b2 : FVec Ideal S1x1024 .f32) (w3 : FVec Ideal S1024x256 .bf16)
    (b3 : FVec Ideal S1x256 .f32) (r : Fin 512) (j : Fin 256) :
    k0_pay12 (F := Ideal) x w1 b1 w2 b2 w3 b3 (ix2 r j)
      = net (at2 w1) (at2 b1 0) (at2 w2) (at2 b2 0) (at2 w3) (at2 b3 0) (at2 x r) j := by
  unfold k0_pay12
  simp only [shapeCast_self]
  refine (layer (M := 512) (K := 1024) (N := 256) _ w3 b3 _ r j).trans ?_
  unfold net
  refine congrArg (fun a => lin (at2 w3) (at2 b3 0) a j) (funext fun k => ?_)
  refine pos_apply (M := 512) (N := 1024) _ _ r (fun k => ?_) k
  refine (layer (M := 512) (K := 1024) (N := 1024) _ w2 b2 _ r k).trans ?_
  refine congrArg (fun a => lin (at2 w2) (at2 b2 0) a k) (funext fun l => ?_)
  refine pos_apply (M := 512) (N := 1024) _ _ r (fun l => ?_) l
  exact layer (M := 512) (K := 1024) (N := 1024) x w1 b1 _ r l

/-- Its squared length. -/
theorem pay13_apply (x : FVec Ideal S512x1024 .f32) (w1 : FVec Ideal S1024x1024 .bf16) (b1 : FVec Ideal S1x1024 .f32)
    (w2 : FVec Ideal S1024x1024 .bf16) (b2 : FVec Ideal S1x1024 .f32) (w3 : FVec Ideal S1024x256 .bf16)
    (b3 : FVec Ideal S1x256 .f32) (r : Fin 512) :
    k0_pay13 (F := Ideal) x w1 b1 w2 b2 w3 b3 (ix2 r 0)
      = ∑ d : Fin 256, k0_pay12 (F := Ideal) x w1 b1 w2 b2 w3 b3 (ix2 r d) * k0_pay12 (F := Ideal) x w1 b1 w2 b2 w3 b3 (ix2 r d) := by
  unfold k0_pay13
  refine (asCol_apply (m := 512) _ _ r 0).trans ?_
  refine (Ideal.multiReduction_add_single _ _ _ _ _ (ix1 r)).trans ?_
  refine Finset.sum_congr rfl fun d _ => ?_
  rw [show reduces_S512x256_S512.lift (ix1 r) d = ix2 r d from lift_row (m := 512) (n := 256) _ r d]
  rfl

/-- The codes' squared lengths, as a row. -/
theorem pay11_apply (cb : FVec Ideal S1024x256 .f32) (k : Fin 1024) :
    k0_pay11 (F := Ideal) cb (ix2 0 k) = ∑ d : Fin 256, cb (ix2 k d) * cb (ix2 k d) := by
  unfold k0_pay11
  simp only [shapeCast_self]
  refine (asRow_apply (n := 1024) _ _ k).trans ?_
  refine (Ideal.multiReduction_add_single _ _ _ _ _ (ix1 k)).trans ?_
  refine Finset.sum_congr rfl fun d _ => ?_
  rw [show reduces_S1024x256_S1024.lift (ix1 k) d = ix2 k d from lift_row (m := 1024) (n := 256) _ k d]
  rfl

/-! ## The nearest code's one-hot row -/

/-- A float minimum along the rows from +∞ is the first least entry's value. -/
theorem min_row (x : FVec Ideal S512x1024 .f32) (d : Fin 1024 → EReal) (r : Fin 512) (hx : ∀ k, x (ix2 r k) = d k)
    (hφ : FKind.Formats .f32) (hacc : (0x7F800000#32 : BitVec 32) = FKind.minimumf.neutral .f32 hφ) :
    multiReduction (F := Ideal) .minimumf [1] S512 x 0x7F800000#32 reduces_S512x1024_S512 hφ hacc (ix1 r) = d (first d) := by
  rw [multiReduction_minimumf_eq_fold, Shape.Reduces.fold_filter_drop_single]
  have e : x ∘ reduces_S512x1024_S512.lift (ix1 r) = d := funext fun k => by
    show x (reduces_S512x1024_S512.lift (ix1 r) k) = d k
    rw [show reduces_S512x1024_S512.lift (ix1 r) k = ix2 r k from lift_row (m := 512) (n := 1024) _ r k]
    exact hx k
  rw [e]
  have t : FloatOps.ofBits (F := Ideal) .f32 0x7F800000#32 = (⊤ : EReal) := by
    show Ideal.ofBits .f32 0x7F800000#32 = ⊤
    simp [Ideal.ofBits, Ideal.ieee]
  rw [t]
  exact fold_min d

/-- The signed minimum along the rows of the numbers where the least value stands is the first such number. -/
theorem minsi_row (x : IVec S512x1024 32) (d : Fin 1024 → EReal) (r : Fin 512)
    (hx : ∀ k, x (ix2 r k) = if d k = d (first d) then BitVec.ofNat 32 k.val else 1024#32)
    (hacc : (2147483647#32 : BitVec 32) = IKind.minsi.neutral) :
    multiReductionI .minsi [1] S512 x 2147483647#32 reduces_S512x1024_S512 hacc (ix1 r) = BitVec.ofNat 32 (first d).val := by
  rw [multiReductionI_eq_fold, Shape.Reduces.fold_filter_drop_single]
  refine fold_minsi d _ fun k => ?_
  show x (reduces_S512x1024_S512.lift (ix1 r) k) = _
  rw [show reduces_S512x1024_S512.lift (ix1 r) k = ix2 r k from lift_row (m := 512) (n := 1024) _ r k]
  exact hx k

/-- Two numbers below 1024 are equal as words only where they are equal. -/
theorem word_inj (a b : Fin 1024) : BitVec.ofNat 32 a.val = BitVec.ofNat 32 b.val ↔ a = b := by
  constructor
  · intro h
    have := congrArg BitVec.toNat h
    simp only [BitVec.toNat_ofNat] at this
    have ha := a.isLt; have hb := b.isLt
    exact Fin.ext (by omega)
  · rintro rfl; rfl

/-- The distances on a block. -/
def dists (z : FVec Ideal S512x256 .f32) (zs : FVec Ideal S512x1 .f32) (cb : FVec Ideal S1024x256 .bf16)
    (cs : FVec Ideal S1x1024 .f32) : FVec Ideal S512x1024 .f32 :=
  subf (F := Ideal) (addf (F := Ideal) (broadcastTo S512x1024 zs broadcasts_S512x1_S512x1024) (broadcastTo S512x1024 cs broadcasts_S1x1024_S512x1024))
    (mulf (F := Ideal) (broadcast S512x1024 (Scalar.ofBits (F := Ideal) .f32 0x40000000#32))
      (matmul (F := Ideal) dot_S512x256_S1024x256_S512x1024_1_1_0_0_n_n none z cb (constant (F := Ideal) S512x1024 .f32 0x00000000#32)))

/-- The pattern of 2.0 is 2. -/
theorem two : Ideal.ofBits .f32 0x40000000#32 = 2 := by
  have e : Ideal.ofBits .f32 0x40000000#32 = (((8388608 : ℝ) * (2 ^ 22)⁻¹ : ℝ) : EReal) := by
    simp [Ideal.ofBits, Ideal.ieee]
  rw [e]
  norm_num
  rfl

/-- They are the squared distances, row by row. -/
theorem dists_apply (z : FVec Ideal S512x256 .f32) (zs : FVec Ideal S512x1 .f32) (cb : FVec Ideal S1024x256 .bf16)
    (cs : FVec Ideal S1x1024 .f32) (r : Fin 512) (k : Fin 1024)
    (hz : zs (ix2 r 0) = ∑ d : Fin 256, z (ix2 r d) * z (ix2 r d))
    (hc : cs (ix2 0 k) = ∑ d : Fin 256, cb (ix2 k d) * cb (ix2 k d)) :
    dists z zs cb cs (ix2 r k) = sqDist (at2 cb) (at2 z r) k := by
  show (broadcastTo S512x1024 zs _ (ix2 r k) + broadcastTo S512x1024 cs _ (ix2 r k))
    - Ideal.ofBits .f32 0x40000000#32 * FloatOps.matmul (DotDims.transposedRhs 512 256 1024) none z cb _ (ix2 r k) = _
  rw [col_apply, row_apply, Ideal.matmul_transposedRhs_apply, hz, hc, two]
  show _ - 2 * (Ideal.ofBits .f32 0x00000000#32 + _) = _
  rw [Ideal.ofBits_zero_f32, zero_add]
  rfl

/-- The column numbers where a block's rows are least, 1024 elsewhere. -/
def numbers (x : FVec Ideal S512x1024 .f32) : IVec S512x1024 32 :=
  select (cmpf (F := Ideal) .oeq x (broadcastTo S512x1024 (shapeCast S512x1
      (multiReduction (F := Ideal) .minimumf [1] S512 x 0x7F800000#32 reduces_S512x1024_S512 (.inl rfl) rfl)
      shapeCasts_S512_S512x1) broadcasts_S512x1_S512x1024))
    (iota .tc S512x1024 32 [1] iota_S512x1024_d1_w32) (broadcast S512x1024 1024#32)

/-- Read at an entry. -/
theorem numbers_apply (x : FVec Ideal S512x1024 .f32) (d : Fin 1024 → EReal) (r : Fin 512) (hx : ∀ k, x (ix2 r k) = d k)
    (k : Fin 1024) : numbers x (ix2 r k) = if d k = d (first d) then BitVec.ofNat 32 k.val else 1024#32 := by
  have hmin : broadcastTo S512x1024 (shapeCast S512x1 (multiReduction (F := Ideal) .minimumf [1] S512 x
      0x7F800000#32 reduces_S512x1024_S512 (.inl rfl) rfl) shapeCasts_S512_S512x1) broadcasts_S512x1_S512x1024 (ix2 r k)
        = d (first d) :=
    ((col_apply _ _ r k).trans (asCol_apply _ _ r 0)).trans (min_row x d r hx _ _)
  have hio : iota .tc S512x1024 32 [1] iota_S512x1024_d1_w32 (ix2 r k) = BitVec.ofNat 32 k.val :=
    iota_single_apply .tc S512x1024 32 1 _ (ix2 r k)
  have e : numbers x (ix2 r k) = Scalar.select (Ideal.cmp .oeq (d k) (d (first d))) (BitVec.ofNat 32 k.val) 1024#32 := by
    rw [← hmin, ← hio, ← hx k]; rfl
  rw [e]
  by_cases h : d k = d (first d)
  · simp [Ideal.cmp, h, Scalar.select]
  · simp [Ideal.cmp, h, Scalar.select]

/-- The block's one-hot rows from its distances. -/
def hot (x : FVec Ideal S512x1024 .f32) : FVec Ideal S512x1024 .bf16 :=
  truncf (F := Ideal) .bf16 (sitofp (F := Ideal) .f32 (extui 32 (cmpi .eq (iota .tc S512x1024 32 [1] iota_S512x1024_d1_w32)
    (broadcastTo S512x1024 (shapeCast S512x1
      (multiReductionI .minsi [1] S512 (numbers x) 2147483647#32 reduces_S512x1024_S512 rfl) shapeCasts_S512_S512x1)
      broadcasts_S512x1_S512x1024)) natLt_1_32)) bitsLt_bf16_f32

/-- One at the first least entry's number, zero elsewhere. -/
theorem hot_apply (x : FVec Ideal S512x1024 .f32) (d : Fin 1024 → EReal) (r : Fin 512) (hx : ∀ k, x (ix2 r k) = d k)
    (k : Fin 1024) : hot x (ix2 r k) = if k = first d then (1 : EReal) else 0 := by
  have hmin : broadcastTo S512x1024 (shapeCast S512x1
      (multiReductionI .minsi [1] S512 (numbers x) 2147483647#32 reduces_S512x1024_S512 rfl) shapeCasts_S512_S512x1)
      broadcasts_S512x1_S512x1024 (ix2 r k) = BitVec.ofNat 32 (first d).val :=
    ((col_apply _ _ r k).trans (asCol_apply _ _ r 0)).trans (minsi_row _ d r (numbers_apply x d r hx) _)
  have hio : iota .tc S512x1024 32 [1] iota_S512x1024_d1_w32 (ix2 r k) = BitVec.ofNat 32 k.val :=
    iota_single_apply .tc S512x1024 32 1 _ (ix2 r k)
  have e : hot x (ix2 r k)
      = ((((IntOp.cmpi .eq (BitVec.ofNat 32 k.val) (BitVec.ofNat 32 (first d).val)).setWidth 32).toInt : ℝ) : EReal) := by
    rw [← hmin, ← hio]; rfl
  rw [e]
  by_cases h : k = first d
  · subst h; simp [IntOp.cmpi]
  · have h' : ¬ BitVec.ofNat 32 k.val = BitVec.ofNat 32 (first d).val := fun e => h ((word_inj _ _).mp e)
    simp [IntOp.cmpi, h, beq_false_of_ne h']

/-- So is the body's one-hot array. -/
theorem pay14_eq (z : FVec Ideal S512x256 .f32) (zs : FVec Ideal S512x1 .f32) (cb : FVec Ideal S1024x256 .bf16)
    (cs : FVec Ideal S1x1024 .f32) : k0_pay14 (F := Ideal) z zs cb cs = hot (dists z zs cb cs) := rfl

/-- A block of one-hot rows times a table is the table's rows. -/
theorem lookup (x : FVec Ideal S512x1024 .bf16) (t : FVec Ideal S1024x256 .bf16) (r : Fin 512) (i : Fin 1024)
    (hx : ∀ k, x (ix2 r k) = if k = i then (1 : EReal) else 0) (j : Fin 256) :
    matmul (F := Ideal) dot_S512x1024_S1024x256_S512x256_1_0_0_1_n_n none x t
      (constant (F := Ideal) S512x256 .f32 0x00000000#32) (ix2 r j) = t (ix2 i j) := by
  show FloatOps.matmul (DotDims.plain 512 1024 256) none x t _ (ix2 r j) = _
  rw [Ideal.matmul_plain_apply]
  show Ideal.ofBits .f32 0x00000000#32 + _ = _
  rw [Ideal.ofBits_zero_f32, zero_add]
  simp only [hx]
  exact sum_oneHot i fun k => t (ix2 k j)

/-- The lookup by the high half of the codebook: the row of the first least distance. -/
theorem pay15_apply (z : FVec Ideal S512x256 .f32) (zs : FVec Ideal S512x1 .f32) (cb : FVec Ideal S1024x256 .bf16)
    (cs : FVec Ideal S1x1024 .f32) (t : FVec Ideal S1024x256 .bf16) (d : Fin 1024 → EReal) (r : Fin 512)
    (hd : ∀ k, dists z zs cb cs (ix2 r k) = d k) (j : Fin 256) :
    k0_pay15 (F := Ideal) z zs cb cs t (ix2 r j) = t (ix2 (first d) j) :=
  lookup _ t r (first d) (hot_apply _ d r hd) j

/-- By both halves: the sum of the two rows. -/
theorem pay16_apply (z : FVec Ideal S512x256 .f32) (zs : FVec Ideal S512x1 .f32) (cb : FVec Ideal S1024x256 .bf16)
    (cs : FVec Ideal S1x1024 .f32) (t l : FVec Ideal S1024x256 .bf16) (d : Fin 1024 → EReal) (r : Fin 512)
    (hd : ∀ k, dists z zs cb cs (ix2 r k) = d k) (j : Fin 256) :
    k0_pay16 (F := Ideal) z zs cb cs t l (ix2 r j) = (t (ix2 (first d) j) + l (ix2 (first d) j) : EReal) :=
  congrArg₂ (fun a b : EReal => a + b) (pay15_apply z zs cb cs t d r hd j) (lookup _ l r (first d) (hot_apply _ d r hd) j)

/-! ## The decoder -/

/-- The decoder's first layer. -/
theorem pay17_apply (z : FVec Ideal S512x256 .f32) (zs : FVec Ideal S512x1 .f32) (cb : FVec Ideal S1024x256 .bf16)
    (cs : FVec Ideal S1x1024 .f32) (t : FVec Ideal S1024x256 .bf16) (w : FVec Ideal S256x1024 .bf16)
    (b : FVec Ideal S1x1024 .f32) (d : Fin 1024 → EReal) (r : Fin 512)
    (hd : ∀ k, dists z zs cb cs (ix2 r k) = d k) (j : Fin 1024) :
    k0_pay17 (F := Ideal) z zs cb cs t w b (ix2 r j) = pos (lin (at2 w) (at2 b 0) (at2 t (first d))) j := by
  unfold k0_pay17
  simp only [shapeCast_self]
  refine pos_apply (M := 512) (N := 1024) _ _ r (fun k => ?_) j
  refine (layer (M := 512) (K := 256) (N := 1024) _ w b _ r k).trans ?_
  exact congrArg (fun a => lin (at2 w) (at2 b 0) a k) (funext fun l => pay15_apply z zs cb cs t d r hd l)

/-- The other two. -/
theorem pay1_apply (h : FVec Ideal S512x1024 .bf16) (w2 : FVec Ideal S1024x1024 .bf16) (b2 : FVec Ideal S1x1024 .f32)
    (w3 : FVec Ideal S1024x1024 .bf16) (b3 : FVec Ideal S1x1024 .f32) (r : Fin 512) (j : Fin 1024) :
    k0_pay1 (F := Ideal) h w2 b2 w3 b3 (ix2 r j)
      = lin (at2 w3) (at2 b3 0) (pos (lin (at2 w2) (at2 b2 0) (at2 h r))) j := by
  unfold k0_pay1
  simp only [shapeCast_self]
  refine (layer (M := 512) (K := 1024) (N := 1024) _ w3 b3 _ r j).trans ?_
  refine congrArg (fun a => lin (at2 w3) (at2 b3 0) a j) (funext fun k => ?_)
  refine pos_apply (M := 512) (N := 1024) _ _ r (fun k => ?_) k
  exact layer (M := 512) (K := 1024) (N := 1024) h w2 b2 _ r k

end Cert.Proof.Pays
-- ==== Proof.KInputs.lean ====
/-
  What the kernel's body reads, in the argument arrays' entries: block t of x is rows 512 t … 512 t + 511, a bias is the
  vector laid down as a row, and a weight cast and kept is, on extended reals, the weight.
-/
module

public import proofs.«01_k».proof.Proof.Block
public import proofs.«01_k».proof.Proof.Pays
public import Idealize.ShloMosaic.Lib.StableHlo.Run

@[expose] public section

set_option maxRecDepth 16384

noncomputable section

namespace Cert.Proof.KInputs

open scoped BigOperators
open Cert.KernelIdeal Cert.KernelIdeal.Gen
open Idealize.ShloMosaic Idealize.ShloMosaic.TcCoe Idealize.ShloMosaic.ValueIdx
open Cert.Proof.Math Cert.Proof.Pays

variable (m : (ℓ : Loc nD τ sig) → Buf (Elt Ideal) ℓ) (c : Dev nD)

/-! ## The argument arrays -/

/-- x. -/
abbrev x : FVec Ideal S4096x1024 .f32 := m ((c.tc : Thread nD τ).loc main_arg0)
/-- The encoder's first weight. -/
abbrev We1 : FVec Ideal S1024x1024 .f32 := m ((c.tc : Thread nD τ).loc main_arg1)
/-- Its bias. -/
abbrev be1 : FVec Ideal S1024 .f32 := m ((c.tc : Thread nD τ).loc main_arg2)
/-- The encoder's second weight. -/
abbrev We2 : FVec Ideal S1024x1024 .f32 := m ((c.tc : Thread nD τ).loc main_arg3)
/-- Its bias. -/
abbrev be2 : FVec Ideal S1024 .f32 := m ((c.tc : Thread nD τ).loc main_arg4)
/-- The encoder's third weight. -/
abbrev We3 : FVec Ideal S1024x256 .f32 := m ((c.tc : Thread nD τ).loc main_arg5)
/-- Its bias. -/
abbrev be3 : FVec Ideal S256 .f32 := m ((c.tc : Thread nD τ).loc main_arg6)
/-- The decoder's first weight. -/
abbrev Wd1 : FVec Ideal S256x1024 .f32 := m ((c.tc : Thread nD τ).loc main_arg7)
/-- Its bias. -/
abbrev bd1 : FVec Ideal S1024 .f32 := m ((c.tc : Thread nD τ).loc main_arg8)
/-- The decoder's second weight. -/
abbrev Wd2 : FVec Ideal S1024x1024 .f32 := m ((c.tc : Thread nD τ).loc main_arg9)
/-- Its bias. -/
abbrev bd2 : FVec Ideal S1024 .f32 := m ((c.tc : Thread nD τ).loc main_arg10)
/-- The decoder's third weight. -/
abbrev Wd3 : FVec Ideal S1024x1024 .f32 := m ((c.tc : Thread nD τ).loc main_arg11)
/-- Its bias. -/
abbrev bd3 : FVec Ideal S1024 .f32 := m ((c.tc : Thread nD τ).loc main_arg12)
/-- The codebook. -/
abbrev cb : FVec Ideal S1024x256 .f32 := m ((c.tc : Thread nD τ).loc main_arg13)

/-- The entries of a vector. -/
abbrev at1 {n : ℕ} (a : (⟨1, ![n]⟩ : Shape).Idx → EReal) (j : Fin n) : EReal := a (ix1 j)

/-! ## The kept weights -/

/-- The encoder's first weight, cast and kept, is the argument. -/
theorem w1_eq : Block.w1 m c = We1 m c := by
  unfold Block.w1 k0_pay2; simp only [shapeCast_self]; exact V_main_arg1 m c
/-- The encoder's second weight, cast and kept, is the argument. -/
theorem w2_eq : Block.w2 m c = We2 m c := by
  unfold Block.w2 k0_pay3; simp only [shapeCast_self]; exact V_main_arg3 m c
/-- The encoder's third weight, cast and kept, is the argument. -/
theorem w3_eq : Block.w3 m c = We3 m c := by
  unfold Block.w3 k0_pay4; simp only [shapeCast_self]; exact V_main_arg5 m c
/-- The decoder's first weight, cast and kept, is the argument. -/
theorem wd1_eq : Block.wd1 m c = Wd1 m c := by
  unfold Block.wd1 k0_pay5; simp only [shapeCast_self]; exact V_main_arg7 m c
/-- The decoder's second weight, cast and kept, is the argument. -/
theorem wd2_eq : Block.wd2 m c = Wd2 m c := by
  unfold Block.wd2 k0_pay6; simp only [shapeCast_self]; exact V_main_arg9 m c
/-- The decoder's third weight, cast and kept, is the argument. -/
theorem wd3_eq : Block.wd3 m c = Wd3 m c := by
  unfold Block.wd3 k0_pay7; simp only [shapeCast_self]; exact V_main_arg11 m c

/-- The codebook's high half is the codebook. -/
theorem cbh_eq : Block.cbh m c = cb m c := by
  unfold Block.cbh k0_pay9 k0_pay8; simp only [shapeCast_self]; exact V_main_arg13 m c

/-- Its low half is the codebook less itself. -/
theorem cbl_apply (k : Fin 1024) (j : Fin 256) : Block.cbl m c (ix2 k j) = at2 (cb m c) k j - at2 (cb m c) k j := by
  unfold Block.cbl k0_pay10 k0_pay8; simp only [shapeCast_self]
  show at2 (V m c main_arg13 : FVec Ideal S1024x256 .f32) k j - at2 (V m c main_arg13 : FVec Ideal S1024x256 .f32) k j = _
  rw [V_main_arg13 m c]

/-- The kept row norms are the codes' squared norms. -/
theorem csq_apply (k : Fin 1024) : Block.csq m c (ix2 0 k) = ∑ d : Fin 256, cb m c (ix2 k d) * cb m c (ix2 k d) := by
  unfold Block.csq
  rw [V_main_arg13 m c]
  exact pay11_apply _ k

/-! ## The blocks read -/

/-- The row of the whole array a row of block t is. -/
def row (t : Fin cfg0.N) (r : Fin 512) : Fin 4096 :=
  ⟨512 * t.val + r.val, by have := lt_of_lt_of_eq t.isLt (show cfg0.N = 8 from N_0); have := r.isLt; omega⟩

/-- Point t reads block t of x. -/
theorem index0 : ∀ t : Fin grid0.N, win0_0.index t 0 = t.val ∧ win0_0.index t 1 = 0 := by decide +kernel
/-- Every point reads bias window 1 whole. -/
theorem index1 : ∀ t : Fin grid0.N, win0_1.index t 0 = 0 ∧ win0_1.index t 1 = 0 := by decide +kernel
/-- Every point reads bias window 2 whole. -/
theorem index2 : ∀ t : Fin grid0.N, win0_2.index t 0 = 0 ∧ win0_2.index t 1 = 0 := by decide +kernel
/-- Every point reads bias window 3 whole. -/
theorem index3 : ∀ t : Fin grid0.N, win0_3.index t 0 = 0 ∧ win0_3.index t 1 = 0 := by decide +kernel
/-- Every point reads bias window 4 whole. -/
theorem index4 : ∀ t : Fin grid0.N, win0_4.index t 0 = 0 ∧ win0_4.index t 1 = 0 := by decide +kernel
/-- Every point reads bias window 5 whole. -/
theorem index5 : ∀ t : Fin grid0.N, win0_5.index t 0 = 0 ∧ win0_5.index t 1 = 0 := by decide +kernel
/-- Every point reads bias window 6 whole. -/
theorem index6 : ∀ t : Fin grid0.N, win0_6.index t 0 = 0 ∧ win0_6.index t 1 = 0 := by decide +kernel

/-- Block t of x. -/
theorem x_apply (t : Fin cfg0.N) (r : Fin 512) (j : Fin 1024) :
    (iblk m c 0 t : FVec Ideal S512x1024 .f32) (ix2 r j) = x m c (ix2 (row t r) j) := by
  have hi := index0 t
  unfold iblk
  rw [View.read_apply]
  show V m c main_arg0 _ = _
  rw [V_main_arg0 m c]
  refine congrArg (x m c) (Shape.idx_ext₂ ?_ ?_)
  · show win0_0.index t 0 * 512 + 1 * r.val = 512 * t.val + r.val; rw [hi.1]; omega
  · show win0_0.index t 1 * 1024 + 1 * j.val = j.val; rw [hi.2]; omega

/-- The encoder's first bias as reshaped before the launch. -/
theorem V_v0 : (V m c main_v0 : FVec Ideal S1x1024 .f32) = shapeCast S1x1024 (be1 m c) shapeCasts_S1024_S1x1024 := by
  show StableHlo.after hostOps0 _ _ = _
  after_results_simp
  rfl

/-- The encoder's first bias as every point reads it. -/
theorem b1_apply (t : Fin cfg0.N) (j : Fin 1024) : (iblk m c 1 t : FVec Ideal S1x1024 .f32) (ix2 0 j) = be1 m c (ix1 j) := by
  have hi := index1 t
  refine Eq.trans (congrArg (V m c main_v0 : FVec Ideal S1x1024 .f32) (Shape.idx_ext₂ (y := ix2 0 j) ?_ ?_)) ?_
  · show win0_1.index t 0 * 1 + 1 * 0 = 0; rw [hi.1]
  · show win0_1.index t 1 * 1024 + 1 * j.val = j.val; rw [hi.2]; omega
  · rw [V_v0]; exact asRow_apply _ _ j

/-- The encoder's second bias as reshaped before the launch. -/
theorem V_v1 : (V m c main_v1 : FVec Ideal S1x1024 .f32) = shapeCast S1x1024 (be2 m c) shapeCasts_S1024_S1x1024 := by
  show StableHlo.after hostOps0 _ _ = _
  after_results_simp
  rfl

/-- The encoder's second bias as every point reads it. -/
theorem b2_apply (t : Fin cfg0.N) (j : Fin 1024) : (iblk m c 2 t : FVec Ideal S1x1024 .f32) (ix2 0 j) = be2 m c (ix1 j) := by
  have hi := index2 t
  refine Eq.trans (congrArg (V m c main_v1 : FVec Ideal S1x1024 .f32) (Shape.idx_ext₂ (y := ix2 0 j) ?_ ?_)) ?_
  · show win0_2.index t 0 * 1 + 1 * 0 = 0; rw [hi.1]
  · show win0_2.index t 1 * 1024 + 1 * j.val = j.val; rw [hi.2]; omega
  · rw [V_v1]; exact asRow_apply _ _ j

/-- The encoder's third bias as reshaped before the launch. -/
theorem V_v2 : (V m c main_v2 : FVec Ideal S1x256 .f32) = shapeCast S1x256 (be3 m c) shapeCasts_S256_S1x256 := by
  show StableHlo.after hostOps0 _ _ = _
  after_results_simp
  rfl

/-- The encoder's third bias as every point reads it. -/
theorem b3_apply (t : Fin cfg0.N) (j : Fin 256) : (iblk m c 3 t : FVec Ideal S1x256 .f32) (ix2 0 j) = be3 m c (ix1 j) := by
  have hi := index3 t
  refine Eq.trans (congrArg (V m c main_v2 : FVec Ideal S1x256 .f32) (Shape.idx_ext₂ (y := ix2 0 j) ?_ ?_)) ?_
  · show win0_3.index t 0 * 1 + 1 * 0 = 0; rw [hi.1]
  · show win0_3.index t 1 * 256 + 1 * j.val = j.val; rw [hi.2]; omega
  · rw [V_v2]; exact asRow_apply _ _ j

/-- The decoder's first bias as reshaped before the launch. -/
theorem V_v3 : (V m c main_v3 : FVec Ideal S1x1024 .f32) = shapeCast S1x1024 (bd1 m c) shapeCasts_S1024_S1x1024 := by
  show StableHlo.after hostOps0 _ _ = _
  after_results_simp
  rfl

/-- The decoder's first bias as every point reads it. -/
theorem b4_apply (t : Fin cfg0.N) (j : Fin 1024) : (iblk m c 4 t : FVec Ideal S1x1024 .f32) (ix2 0 j) = bd1 m c (ix1 j) := by
  have hi := index4 t
  refine Eq.trans (congrArg (V m c main_v3 : FVec Ideal S1x1024 .f32) (Shape.idx_ext₂ (y := ix2 0 j) ?_ ?_)) ?_
  · show win0_4.index t 0 * 1 + 1 * 0 = 0; rw [hi.1]
  · show win0_4.index t 1 * 1024 + 1 * j.val = j.val; rw [hi.2]; omega
  · rw [V_v3]; exact asRow_apply _ _ j

/-- The decoder's second bias as reshaped before the launch. -/
theorem V_v4 : (V m c main_v4 : FVec Ideal S1x1024 .f32) = shapeCast S1x1024 (bd2 m c) shapeCasts_S1024_S1x1024 := by
  show StableHlo.after hostOps0 _ _ = _
  after_results_simp
  rfl

/-- The decoder's second bias as every point reads it. -/
theorem b5_apply (t : Fin cfg0.N) (j : Fin 1024) : (iblk m c 5 t : FVec Ideal S1x1024 .f32) (ix2 0 j) = bd2 m c (ix1 j) := by
  have hi := index5 t
  refine Eq.trans (congrArg (V m c main_v4 : FVec Ideal S1x1024 .f32) (Shape.idx_ext₂ (y := ix2 0 j) ?_ ?_)) ?_
  · show win0_5.index t 0 * 1 + 1 * 0 = 0; rw [hi.1]
  · show win0_5.index t 1 * 1024 + 1 * j.val = j.val; rw [hi.2]; omega
  · rw [V_v4]; exact asRow_apply _ _ j

/-- The decoder's third bias as reshaped before the launch. -/
theorem V_v5 : (V m c main_v5 : FVec Ideal S1x1024 .f32) = shapeCast S1x1024 (bd3 m c) shapeCasts_S1024_S1x1024 := by
  show StableHlo.after hostOps0 _ _ = _
  after_results_simp
  rfl

/-- The decoder's third bias as every point reads it. -/
theorem b6_apply (t : Fin cfg0.N) (j : Fin 1024) : (iblk m c 6 t : FVec Ideal S1x1024 .f32) (ix2 0 j) = bd3 m c (ix1 j) := by
  have hi := index6 t
  refine Eq.trans (congrArg (V m c main_v5 : FVec Ideal S1x1024 .f32) (Shape.idx_ext₂ (y := ix2 0 j) ?_ ?_)) ?_
  · show win0_6.index t 0 * 1 + 1 * 0 = 0; rw [hi.1]
  · show win0_6.index t 1 * 1024 + 1 * j.val = j.val; rw [hi.2]; omega
  · rw [V_v5]; exact asRow_apply _ _ j

end Cert.Proof.KInputs

end
-- ==== Proof.KRows.lean ====
/-
  The three blocks a point writes, row by row: the encoder's net of the row of x, the code nearest to it, and the
  decoder's net of that code.
-/
module

public import proofs.«01_k».proof.Proof.KInputs

@[expose] public section

set_option maxRecDepth 16384

noncomputable section

namespace Cert.Proof.KRows

open scoped BigOperators
open Cert.KernelIdeal Cert.KernelIdeal.Gen
open Idealize.ShloMosaic Idealize.ShloMosaic.TcCoe Idealize.ShloMosaic.ValueIdx
open Cert.Proof.Math Cert.Proof.Pays Cert.Proof.KInputs

variable (m : (ℓ : Loc nD τ sig) → Buf (Elt Ideal) ℓ) (c : Dev nD)

/-- Row i of z_e: the encoder's net of row i of x. -/
def zRow (i : Fin 4096) : Fin 256 → EReal :=
  net (at2 (We1 m c)) (at1 (be1 m c)) (at2 (We2 m c)) (at1 (be2 m c)) (at2 (We3 m c)) (at1 (be3 m c)) (at2 (x m c) i)

/-- Row i of z_q: the code nearest to row i of z_e. -/
def qRow (i : Fin 4096) : Fin 256 → EReal := nearest (at2 (cb m c)) (zRow m c i)

/-- Row i of x_tilde: the decoder's net of row i of z_q. -/
def xRow (i : Fin 4096) : Fin 1024 → EReal :=
  net (at2 (Wd1 m c)) (at1 (bd1 m c)) (at2 (Wd2 m c)) (at1 (bd2 m c)) (at2 (Wd3 m c)) (at1 (bd3 m c)) (qRow m c i)

/-- The block of z_e. -/
theorem ze_apply (t : Fin cfg0.N) (r : Fin 512) (j : Fin 256) : Block.ze m c t (ix2 r j) = zRow m c (row t r) j := by
  unfold Block.ze zRow
  rw [w1_eq, w2_eq, w3_eq]
  refine (pay12_apply _ _ _ _ _ _ _ r j).trans ?_
  rw [show at2 (iblk m c 1 t : FVec Ideal S1x1024 .f32) 0 = at1 (be1 m c) from funext (b1_apply m c t),
    show at2 (iblk m c 2 t : FVec Ideal S1x1024 .f32) 0 = at1 (be2 m c) from funext (b2_apply m c t),
    show at2 (iblk m c 3 t : FVec Ideal S1x256 .f32) 0 = at1 (be3 m c) from funext (b3_apply m c t),
    show at2 (iblk m c 0 t : FVec Ideal S512x1024 .f32) r = at2 (x m c) (row t r) from funext (x_apply m c t r)]

/-- The distances the body takes are the squared distances of the row to the codes. -/
theorem dists_eq (t : Fin cfg0.N) (r : Fin 512) (k : Fin 1024) :
    dists (Block.ze m c t) (Block.zsq m c t) (Block.cbh m c) (Block.csq m c) (ix2 r k)
      = sqDist (at2 (cb m c)) (zRow m c (row t r)) k := by
  refine (dists_apply _ _ _ _ r k ?_ ?_).trans ?_
  · exact pay13_apply _ _ _ _ _ _ _ r
  · rw [cbh_eq]; exact csq_apply m c k
  · rw [cbh_eq, show at2 (Block.ze m c t) r = zRow m c (row t r) from funext (ze_apply m c t r)]

/-- The block of z_q, of a finite codebook: its low half is zero. -/
theorem zq_apply (hc : ∀ k d, Real (at2 (cb m c) k d)) (t : Fin cfg0.N) (r : Fin 512) (j : Fin 256) :
    Block.zq m c t (ix2 r j) = qRow m c (row t r) j := by
  unfold Block.zq
  refine (pay16_apply _ _ _ _ _ _ _ r (dists_eq m c t r) j).trans ?_
  rw [cbl_apply, cbh_eq, Math.sub_self (hc _ j), add_zero]
  rfl

/-- The decoder's first layer. -/
theorem h1_apply (t : Fin cfg0.N) (r : Fin 512) (j : Fin 1024) :
    Block.h1 m c t (ix2 r j) = pos (lin (at2 (Wd1 m c)) (at1 (bd1 m c)) (qRow m c (row t r))) j := by
  unfold Block.h1
  refine (pay17_apply _ _ _ _ _ _ _ _ r (dists_eq m c t r) j).trans ?_
  rw [wd1_eq, cbh_eq, show at2 (iblk m c 4 t : FVec Ideal S1x1024 .f32) 0 = at1 (bd1 m c) from funext (b4_apply m c t)]
  rfl

/-- The block of x_tilde. -/
theorem xt_apply (t : Fin cfg0.N) (r : Fin 512) (j : Fin 1024) : Block.xt m c t (ix2 r j) = xRow m c (row t r) j := by
  unfold Block.xt xRow net
  rw [wd2_eq, wd3_eq]
  refine (pay1_apply _ _ _ _ _ r j).trans ?_
  rw [show at2 (iblk m c 5 t : FVec Ideal S1x1024 .f32) 0 = at1 (bd2 m c) from funext (b5_apply m c t),
    show at2 (iblk m c 6 t : FVec Ideal S1x1024 .f32) 0 = at1 (bd3 m c) from funext (b6_apply m c t),
    show at2 (Block.h1 m c t) r = pos (lin (at2 (Wd1 m c)) (at1 (bd1 m c)) (qRow m c (row t r))) from funext (h1_apply m c t r)]

end Cert.Proof.KRows

end
-- ==== Proof.KArrays.lean ====
/-
  What the kernel's three result arrays end holding: row 512 t + r of each is row r of the block point t writes.
-/
module

public import proofs.«01_k».proof.Proof.KRows
public import proofs.«01_k».proof.Proof.Run

@[expose] public section

set_option maxRecDepth 16384

noncomputable section

namespace Cert.Proof.KArrays

open Cert.KernelIdeal Cert.KernelIdeal.Gen
open Idealize.ShloMosaic Idealize.ShloMosaic.TcCoe Idealize.ShloMosaic.ValueIdx Idealize.SL.Sem
open Idealize.ShloMosaic.Pipeline (Dat)
open Cert.Proof.Math Cert.Proof.Pays Cert.Proof.KInputs Cert.Proof.KRows

variable (m : (ℓ : Loc nD τ sig) → Buf (Elt Ideal) ℓ) (ρ : Dev nD → PrngReg) (c : Dev nD)

/-- The point that writes a row. -/
def point (i : Fin 4096) : Fin cfg0.N :=
  ⟨i.val / 512, lt_of_lt_of_eq (by have := i.isLt; omega) (show cfg0.N = 8 from N_0).symm⟩

/-- Point t writes block t of x_tilde. -/
theorem index7 : ∀ t : Fin grid0.N, win0_7.index t 0 = t.val ∧ win0_7.index t 1 = 0 := by decide +kernel
/-- No block of x_tilde is cut short. -/
theorem xsize7 : ∀ t : Fin grid0.N, win0_7.xsize (grid0.coords t) 0 = 512 ∧ win0_7.xsize (grid0.coords t) 1 = 1024 := by decide +kernel

/-- x_tilde, row by row. -/
def xtA : FVec Ideal S4096x1024 .f32 := fun i => xRow m c (i 0) (i 1)

/-- Every point writes its block of x_tilde. -/
theorem xt_flushed (t : Fin cfg0.N) : (Run.dats m 0 c).flushed 7 t = ((cfg0.win 7).blk t).view.read (Elt Ideal) (xtA m c) := by
  have hi := index7 t
  show (cfg0.win 7).cut (grid0.coords t) ((Run.dats m 0 c).after 7 t) = _
  rw [Run.after0_7]
  refine funext fun (y : S512x1024.Idx) => ?_
  have e : ((cfg0.win 7).blk t).view.read (Elt Ideal) (xtA m c) y = xRow m c (row t (y 0)) (y 1) := by
    rw [View.read_apply]
    show xRow m c _ _ = _
    refine congrArg₂ (xRow m c) (Fin.ext ?_) (Fin.ext ?_)
    · show win0_7.index t 0 * 512 + 1 * (y 0).val = 512 * t.val + (y 0).val; rw [hi.1]; omega
    · show win0_7.index t 1 * 1024 + 1 * (y 1).val = (y 1).val; rw [hi.2]; omega
  rw [e]
  show Block.xt m c t y = _
  rw [eq_ix2 y]
  exact xt_apply m c t (y 0) (y 1)

/-- Its blocks are all of x_tilde. -/
theorem xt_final : (Run.dats m 0 c).arrAt 7 cfg0.N = xtA m c :=
  (Run.dats m 0 c).arrAt_eq_of_cover 7 (xtA m c) (fun t _ => xt_flushed m c t) fun i =>
    ⟨point (i 0), flush0_7 _, by
      show i ∈ ((View.whole main_v6_0).slice (win0_7.rect (point (i 0)))).set
      rw [View.set_slice_whole, Rect.mem_set_unit]
      have hi := index7 (point (i 0))
      have hx := xsize7 (point (i 0))
      have h0 : (i 0 : ℕ) < 4096 := (i 0).isLt
      have h1 : (i 1 : ℕ) < 1024 := (i 1).isLt
      have hp : (point (i 0)).val = (i 0 : ℕ) / 512 := rfl
      intro a
      match a with
      | ⟨0, _⟩ =>
        show win0_7.index (point (i 0)) 0 * 512 ≤ (i 0 : ℕ)
          ∧ (i 0 : ℕ) < win0_7.index (point (i 0)) 0 * 512 + win0_7.xsize (grid0.coords (point (i 0))) 0
        rw [hi.1, hx.1, hp]; omega
      | ⟨1, _⟩ =>
        show win0_7.index (point (i 0)) 1 * 1024 ≤ (i 1 : ℕ)
          ∧ (i 1 : ℕ) < win0_7.index (point (i 0)) 1 * 1024 + win0_7.xsize (grid0.coords (point (i 0))) 1
        rw [hi.2, hx.2]; omega⟩

/-- Point t writes block t of z_e. -/
theorem index8 : ∀ t : Fin grid0.N, win0_8.index t 0 = t.val ∧ win0_8.index t 1 = 0 := by decide +kernel
/-- No block of z_e is cut short. -/
theorem xsize8 : ∀ t : Fin grid0.N, win0_8.xsize (grid0.coords t) 0 = 512 ∧ win0_8.xsize (grid0.coords t) 1 = 256 := by decide +kernel

/-- z_e, row by row. -/
def zeA : FVec Ideal S4096x256 .f32 := fun i => zRow m c (i 0) (i 1)

/-- Every point writes its block of z_e. -/
theorem ze_flushed (t : Fin cfg0.N) : (Run.dats m 0 c).flushed 8 t = ((cfg0.win 8).blk t).view.read (Elt Ideal) (zeA m c) := by
  have hi := index8 t
  show (cfg0.win 8).cut (grid0.coords t) ((Run.dats m 0 c).after 8 t) = _
  rw [Run.after0_8]
  refine funext fun (y : S512x256.Idx) => ?_
  have e : ((cfg0.win 8).blk t).view.read (Elt Ideal) (zeA m c) y = zRow m c (row t (y 0)) (y 1) := by
    rw [View.read_apply]
    show zRow m c _ _ = _
    refine congrArg₂ (zRow m c) (Fin.ext ?_) (Fin.ext ?_)
    · show win0_8.index t 0 * 512 + 1 * (y 0).val = 512 * t.val + (y 0).val; rw [hi.1]; omega
    · show win0_8.index t 1 * 256 + 1 * (y 1).val = (y 1).val; rw [hi.2]; omega
  rw [e]
  show Block.ze m c t y = _
  rw [eq_ix2 y]
  exact ze_apply m c t (y 0) (y 1)

/-- Its blocks are all of z_e. -/
theorem ze_final : (Run.dats m 0 c).arrAt 8 cfg0.N = zeA m c :=
  (Run.dats m 0 c).arrAt_eq_of_cover 8 (zeA m c) (fun t _ => ze_flushed m c t) fun i =>
    ⟨point (i 0), flush0_8 _, by
      show i ∈ ((View.whole main_v6_1).slice (win0_8.rect (point (i 0)))).set
      rw [View.set_slice_whole, Rect.mem_set_unit]
      have hi := index8 (point (i 0))
      have hx := xsize8 (point (i 0))
      have h0 : (i 0 : ℕ) < 4096 := (i 0).isLt
      have h1 : (i 1 : ℕ) < 256 := (i 1).isLt
      have hp : (point (i 0)).val = (i 0 : ℕ) / 512 := rfl
      intro a
      match a with
      | ⟨0, _⟩ =>
        show win0_8.index (point (i 0)) 0 * 512 ≤ (i 0 : ℕ)
          ∧ (i 0 : ℕ) < win0_8.index (point (i 0)) 0 * 512 + win0_8.xsize (grid0.coords (point (i 0))) 0
        rw [hi.1, hx.1, hp]; omega
      | ⟨1, _⟩ =>
        show win0_8.index (point (i 0)) 1 * 256 ≤ (i 1 : ℕ)
          ∧ (i 1 : ℕ) < win0_8.index (point (i 0)) 1 * 256 + win0_8.xsize (grid0.coords (point (i 0))) 1
        rw [hi.2, hx.2]; omega⟩

/-- Point t writes block t of z_q. -/
theorem index9 : ∀ t : Fin grid0.N, win0_9.index t 0 = t.val ∧ win0_9.index t 1 = 0 := by decide +kernel
/-- No block of z_q is cut short. -/
theorem xsize9 : ∀ t : Fin grid0.N, win0_9.xsize (grid0.coords t) 0 = 512 ∧ win0_9.xsize (grid0.coords t) 1 = 256 := by decide +kernel

/-- z_q, row by row. -/
def zqA : FVec Ideal S4096x256 .f32 := fun i => qRow m c (i 0) (i 1)

/-- Every point writes its block of z_q. -/
theorem zq_flushed (hc : ∀ k d, Real (at2 (cb m c) k d)) (t : Fin cfg0.N) : (Run.dats m 0 c).flushed 9 t = ((cfg0.win 9).blk t).view.read (Elt Ideal) (zqA m c) := by
  have hi := index9 t
  show (cfg0.win 9).cut (grid0.coords t) ((Run.dats m 0 c).after 9 t) = _
  rw [Run.after0_9]
  refine funext fun (y : S512x256.Idx) => ?_
  have e : ((cfg0.win 9).blk t).view.read (Elt Ideal) (zqA m c) y = qRow m c (row t (y 0)) (y 1) := by
    rw [View.read_apply]
    show qRow m c _ _ = _
    refine congrArg₂ (qRow m c) (Fin.ext ?_) (Fin.ext ?_)
    · show win0_9.index t 0 * 512 + 1 * (y 0).val = 512 * t.val + (y 0).val; rw [hi.1]; omega
    · show win0_9.index t 1 * 256 + 1 * (y 1).val = (y 1).val; rw [hi.2]; omega
  rw [e]
  show Block.zq m c t y = _
  rw [eq_ix2 y]
  exact zq_apply m c hc t (y 0) (y 1)

/-- Its blocks are all of z_q. -/
theorem zq_final (hc : ∀ k d, Real (at2 (cb m c) k d)) : (Run.dats m 0 c).arrAt 9 cfg0.N = zqA m c :=
  (Run.dats m 0 c).arrAt_eq_of_cover 9 (zqA m c) (fun t _ => zq_flushed m c hc t) fun i =>
    ⟨point (i 0), flush0_9 _, by
      show i ∈ ((View.whole main_v6_2).slice (win0_9.rect (point (i 0)))).set
      rw [View.set_slice_whole, Rect.mem_set_unit]
      have hi := index9 (point (i 0))
      have hx := xsize9 (point (i 0))
      have h0 : (i 0 : ℕ) < 4096 := (i 0).isLt
      have h1 : (i 1 : ℕ) < 256 := (i 1).isLt
      have hp : (point (i 0)).val = (i 0 : ℕ) / 512 := rfl
      intro a
      match a with
      | ⟨0, _⟩ =>
        show win0_9.index (point (i 0)) 0 * 512 ≤ (i 0 : ℕ)
          ∧ (i 0 : ℕ) < win0_9.index (point (i 0)) 0 * 512 + win0_9.xsize (grid0.coords (point (i 0))) 0
        rw [hi.1, hx.1, hp]; omega
      | ⟨1, _⟩ =>
        show win0_9.index (point (i 0)) 1 * 256 ≤ (i 1 : ℕ)
          ∧ (i 1 : ℕ) < win0_9.index (point (i 0)) 1 * 256 + win0_9.xsize (grid0.coords (point (i 0))) 1
        rw [hi.2, hx.2]; omega⟩

/-- The kernel's run, of a finite codebook: the three results row by row. -/
theorem run (hc : ∀ c : Dev nD, ∀ k d, Real (at2 (cb m c) k d)) :
    θ_run defs (onTc (τ := τ) (main (F := Ideal))) ⟨m, fun _ => 0, ρ⟩ (fun r => ∀ c : Dev nD,
      r.2.mem ((c.tc : Thread nD τ).loc main_v6_0) = xtA m c
      ∧ r.2.mem ((c.tc : Thread nD τ).loc main_v6_1) = zeA m c
      ∧ r.2.mem ((c.tc : Thread nD τ).loc main_v6_2) = zqA m c) :=
  (θ_run defs _ _).mono (fun _ h c => ⟨((h c).1 7).trans (xt_final m c), ((h c).1 8).trans (ze_final m c),
    ((h c).1 9).trans (zq_final m c (hc c))⟩) (Run.run_main m ρ)

end Cert.Proof.KArrays

end
-- ==== Proof.RefRows.lean ====
/-
  What the reference computes on extended reals, row by row: its encoder and decoder are the net of each row, its
  distances the squared distances, its arg-min the first nearest code's number and its lookup that code.
-/
module

public import proofs.«01_k».proof.Proof.Ref
public import proofs.«01_k».proof.Proof.Math
public import Idealize.ShloMosaic.Lib.StackMember
public import Idealize.ShloMosaic.Lib.KernelVsHost
public import Idealize.ShloMosaic.Lib.IdealHost
public import Idealize.ShloMosaic.Lib.Routing.Ops

@[expose] public section

set_option maxRecDepth 16384

noncomputable section

namespace Cert.Proof.RefRows

open scoped BigOperators
open Cert.ReferenceIdeal Cert.ReferenceIdeal.Gen
open Idealize.ShloMosaic Idealize.ShloMosaic.ValueIdx
open Cert.Proof.Math

/-- The entries of an array by row and column. -/
abbrev at2 {m n : ℕ} (a : (⟨2, ![m, n]⟩ : Shape).Idx → EReal) (r : Fin m) (j : Fin n) : EReal := a (ix2 r j)

/-- The entries of a vector. -/
abbrev at1 {n : ℕ} (a : (⟨1, ![n]⟩ : Shape).Idx → EReal) (j : Fin n) : EReal := a (ix1 j)

/-- A vector laid down as a row, read at an entry. -/
theorem asRow_apply {n : ℕ} {α : Type} (h : (⟨1, ![n]⟩ : Shape).BroadcastsInDim ⟨2, ![1, n]⟩ ![1])
    (b : (⟨1, ![n]⟩ : Shape).Idx → α) (j : Fin n) : broadcastInDim ⟨2, ![1, n]⟩ ![1] h b (ix2 0 j) = b (ix1 j) :=
  broadcastInDim_apply ![1] h b (ix2 0 j) (ix1 j) fun a => by
    match a with
    | ⟨0, _⟩ =>
      show j.val = if n = 1 then 0 else j.val
      split
      · have := j.isLt; omega
      · rfl

/-- A vector stood up as a column, read at an entry. -/
theorem asCol_apply {m : ℕ} {α : Type} (h : (⟨1, ![m]⟩ : Shape).BroadcastsInDim ⟨2, ![m, 1]⟩ ![0])
    (b : (⟨1, ![m]⟩ : Shape).Idx → α) (r : Fin m) (j : Fin 1) : broadcastInDim ⟨2, ![m, 1]⟩ ![0] h b (ix2 r j) = b (ix1 r) :=
  broadcastInDim_apply ![0] h b (ix2 r j) (ix1 r) fun a => by
    match a with
    | ⟨0, _⟩ =>
      show r.val = if m = 1 then 0 else r.val
      split
      · have := r.isLt; omega
      · rfl

/-- A vector repeated along every column, read at an entry. -/
theorem cols_apply {m n : ℕ} {α : Type} (h : (⟨1, ![m]⟩ : Shape).BroadcastsInDim ⟨2, ![m, n]⟩ ![0])
    (b : (⟨1, ![m]⟩ : Shape).Idx → α) (r : Fin m) (j : Fin n) : broadcastInDim ⟨2, ![m, n]⟩ ![0] h b (ix2 r j) = b (ix1 r) :=
  broadcastInDim_apply ![0] h b (ix2 r j) (ix1 r) fun a => by
    match a with
    | ⟨0, _⟩ =>
      show r.val = if m = 1 then 0 else r.val
      split
      · have := r.isLt; omega
      · rfl

/-- A column repeated along the rows, read at an entry. -/
theorem col_apply {m n : ℕ} {α : Type} (h : (⟨2, ![m, 1]⟩ : Shape).BroadcastsInDim ⟨2, ![m, n]⟩ ![0, 1])
    (x : (⟨2, ![m, 1]⟩ : Shape).Idx → α) (r : Fin m) (j : Fin n) :
    broadcastInDim ⟨2, ![m, n]⟩ ![0, 1] h x (ix2 r j) = x (ix2 r 0) :=
  broadcastInDim_apply ![0, 1] h x (ix2 r j) (ix2 r 0) fun a => by
    match a with
    | ⟨0, _⟩ =>
      show r.val = if m = 1 then 0 else r.val
      split
      · have := r.isLt; omega
      · rfl
    | ⟨1, _⟩ => rfl

/-- A reduction along the rows inserts the column. -/
theorem lift_row {m n : ℕ} (h : (⟨2, ![m, n]⟩ : Shape).Reduces [1] ⟨1, ![m]⟩) (r : Fin m) (k : Fin n) :
    h.lift (ix1 r) k = ix2 r k := by
  refine Shape.idx_ext₂ ?_ ?_
  · show h.liftVal (ix1 r) k.val 0 = r.val
    simp [Shape.Reduces.liftVal]
  · show h.liftVal (ix1 r) k.val 1 = k.val
    simp [Shape.Reduces.liftVal]

/-! ## The encoder and the decoder -/

/-- max(·, 0), row by row. -/
theorem relu_apply (a : FVec Ideal S4096x1024 .f32) (r : Fin 4096) (j : Fin 1024) :
    Ref.relu a (ix2 r j) = pos (at2 a r) j := by
  show max (a (ix2 r j)) (broadcastInDim S4096x1024 ![] bcast_S_S4096x1024 (constant (F := Ideal) S_ .f32 0x00000000#32) (ix2 r j)) = _
  rw [broadcastInDim_scalar_apply]
  show max _ (Ideal.ofBits .f32 0x00000000#32) = _
  rw [Ideal.ofBits_zero_f32]; rfl

/-- The bias rows. -/
theorem rows_apply (b : FVec Ideal S1024 .f32) (r : Fin 4096) (j : Fin 1024) : Ref.rows b (ix2 r j) = b (ix1 j) :=
  (broadcastInDim_oneRow_apply (m := 4096) (n := 1024) _ _ r j).trans (asRow_apply _ b j)

/-- A layer, row by row. -/
theorem layer {M K N : ℕ} (x : FVec Ideal ⟨2, ![M, K]⟩ .f32) (w : FVec Ideal ⟨2, ![K, N]⟩ .f32)
    (b : FVec Ideal ⟨1, ![N]⟩ .f32) (B : FVec Ideal ⟨2, ![M, N]⟩ .f32) (r : Fin M) (j : Fin N) (hB : B (ix2 r j) = b (ix1 j)) :
    addf (F := Ideal) (Host.dotGeneral (F := Ideal) (DotDims.plain M K N) none x w) B (ix2 r j) = lin (at2 w) (at1 b) (at2 x r) j := by
  show Host.dotGeneral (F := Ideal) (DotDims.plain M K N) none x w (ix2 r j) + B (ix2 r j) = _
  rw [StackMember.dotGeneral_plain_apply, hB]; rfl

/-- A dense layer. -/
theorem dense_apply (a : FVec Ideal S4096x1024 .f32) (W : FVec Ideal S1024x1024 .f32) (b : FVec Ideal S1024 .f32)
    (r : Fin 4096) (j : Fin 1024) : Ref.dense a W b (ix2 r j) = lin (at2 W) (at1 b) (at2 a r) j :=
  layer (M := 4096) (K := 1024) (N := 1024) a W b _ r j (rows_apply b r j)

/-- The encoder is the net of each row. -/
theorem enc_apply (x : FVec Ideal S4096x1024 .f32) (W1 : FVec Ideal S1024x1024 .f32) (b1 : FVec Ideal S1024 .f32)
    (W2 : FVec Ideal S1024x1024 .f32) (b2 : FVec Ideal S1024 .f32) (W3 : FVec Ideal S1024x256 .f32) (b3 : FVec Ideal S256 .f32)
    (r : Fin 4096) (j : Fin 256) :
    Ref.enc x W1 b1 W2 b2 W3 b3 (ix2 r j) = net (at2 W1) (at1 b1) (at2 W2) (at1 b2) (at2 W3) (at1 b3) (at2 x r) j := by
  refine (layer (M := 4096) (K := 1024) (N := 256) _ W3 b3 _ r j
    ((broadcastInDim_oneRow_apply (m := 4096) (n := 256) _ _ r j).trans (asRow_apply _ b3 j))).trans ?_
  refine congrArg (fun a => lin (at2 W3) (at1 b3) a j) (funext fun k => ?_)
  refine (relu_apply _ r k).trans (congrArg (fun a => pos a k) (funext fun k => ?_))
  refine (dense_apply _ W2 b2 r k).trans (congrArg (fun a => lin (at2 W2) (at1 b2) a k) (funext fun l => ?_))
  refine (relu_apply _ r l).trans (congrArg (fun a => pos a l) (funext fun l => ?_))
  exact dense_apply x W1 b1 r l

/-- The decoder is the net of each row. -/
theorem dec_apply (q : FVec Ideal S4096x256 .f32) (W1 : FVec Ideal S256x1024 .f32) (b1 : FVec Ideal S1024 .f32)
    (W2 : FVec Ideal S1024x1024 .f32) (b2 : FVec Ideal S1024 .f32) (W3 : FVec Ideal S1024x1024 .f32) (b3 : FVec Ideal S1024 .f32)
    (r : Fin 4096) (j : Fin 1024) :
    Ref.dec q W1 b1 W2 b2 W3 b3 (ix2 r j) = net (at2 W1) (at1 b1) (at2 W2) (at1 b2) (at2 W3) (at1 b3) (at2 q r) j := by
  refine (dense_apply _ W3 b3 r j).trans (congrArg (fun a => lin (at2 W3) (at1 b3) a j) (funext fun k => ?_))
  refine (relu_apply _ r k).trans (congrArg (fun a => pos a k) (funext fun k => ?_))
  refine (dense_apply _ W2 b2 r k).trans (congrArg (fun a => lin (at2 W2) (at1 b2) a k) (funext fun l => ?_))
  refine (relu_apply _ r l).trans (congrArg (fun a => pos a l) (funext fun l => ?_))
  exact layer (M := 4096) (K := 256) (N := 1024) q W1 b1 _ r l (rows_apply b1 r l)

/-! ## The distances -/

/-- A sum along the rows from zero. -/
theorem sum_row {m n : ℕ} (x : FVec Ideal ⟨2, ![m, n]⟩ .f32) (h' : (⟨2, ![m, n]⟩ : Shape).ReducesTo [1] ⟨1, ![m]⟩)
    (h : (⟨2, ![m, n]⟩ : Shape).Reduces [1] ⟨1, ![m]⟩) (hu : 0 < S_.numel) (r : Fin m) :
    Host.reduceAdd (F := Ideal) x (constant (F := Ideal) S_ .f32 0x00000000#32) h' hu (ix1 r) = ∑ k : Fin n, x (ix2 r k) := by
  rw [hostReduceAdd_apply, Ideal.hostReduceAdd_single h' h]
  show Ideal.ofBits .f32 0x00000000#32 + _ = _
  rw [Ideal.ofBits_zero_f32, zero_add]
  exact Finset.sum_congr rfl fun k _ => congrArg x (lift_row h r k)

/-- The pattern of 2.0 is 2. -/
theorem two : Ideal.ofBits .f32 0x40000000#32 = 2 := by
  have e : Ideal.ofBits .f32 0x40000000#32 = (((8388608 : ℝ) * (2 ^ 22)⁻¹ : ℝ) : EReal) := by
    simp [Ideal.ofBits, Ideal.ieee]
  rw [e]
  norm_num
  rfl

/-- They are the squared distances of each row to each code. -/
theorem dist_apply (z : FVec Ideal S4096x256 .f32) (cb : FVec Ideal S1024x256 .f32) (r : Fin 4096) (k : Fin 1024) :
    Ref.dist z cb (ix2 r k) = sqDist (at2 cb) (at2 z r) k := by
  have e1 : broadcastInDim S4096x1024 ![0, 1] bcast_S4096x1_S4096x1024_0_1 (broadcastInDim S4096x1 ![0] bcast_S4096_S4096x1_0
        (Host.reduceAdd (F := Ideal) (mulf z z) (constant (F := Ideal) S_ .f32 0x00000000#32) reducesTo_S4096x256_S4096_d1 h_S_)) (ix2 r k)
      = ∑ d : Fin 256, z (ix2 r d) * z (ix2 r d) :=
    ((col_apply _ _ r k).trans (asCol_apply _ _ r 0)).trans (sum_row (m := 4096) (n := 256) _ _ (by decide) _ r)
  have e2 : Ref.rows (Host.reduceAdd (F := Ideal) (mulf cb cb) (constant (F := Ideal) S_ .f32 0x00000000#32) reducesTo_S1024x256_S1024_d1 h_S_) (ix2 r k)
      = ∑ d : Fin 256, cb (ix2 k d) * cb (ix2 k d) :=
    (rows_apply _ r k).trans (sum_row (m := 1024) (n := 256) _ _ (by decide) _ k)
  have e3 : Host.dotGeneral (F := Ideal) dot_S4096x256_S256x1024_S4096x1024_1_0_0_1_n_n none z
      (transpose S256x1024 [1, 0] cb transposes_S1024x256_S256x1024_1_0) (ix2 r k) = ∑ d : Fin 256, z (ix2 r d) * cb (ix2 k d) := by
    refine (StackMember.dotGeneral_plain_apply (m := 4096) (k := 256) (n := 1024) none z _ r k).trans ?_
    refine Finset.sum_congr rfl fun d _ => congrArg (z (ix2 r d) * ·) ?_
    exact transpose_apply [1, 0] cb _ (ix2 d k) (ix2 k d) fun b => by
      match b with
      | ⟨0, _⟩ => rfl
      | ⟨1, _⟩ => rfl
  have e4 : broadcastInDim S4096x1024 ![] bcast_S_S4096x1024 (constant (F := Ideal) S_ .f32 0x40000000#32) (ix2 r k) = (2 : EReal) :=
    (broadcastInDim_scalar_apply _ _ _).trans two
  unfold sqDist
  rw [← e1, ← e2, ← e4]
  exact congrArg (fun t : EReal => _ - _ * t) e3

end Cert.Proof.RefRows
-- ==== Proof.RefArgmin.lean ====
/-
  The reference's arg-min on extended reals: the arg-min of a row is the number of its first least entry.
-/
module

public import proofs.«01_k».proof.Proof.RefRows

@[expose] public section

set_option maxRecDepth 16384

noncomputable section

namespace Cert.Proof.RefArgmin

open scoped BigOperators
open Cert.ReferenceIdeal Cert.ReferenceIdeal.Gen
open Idealize.ShloMosaic Idealize.ShloMosaic.ValueIdx
open Cert.Proof.Math
open Cert.Proof.RefRows (at2 at1)

/-! ## The arg-min's fold -/

/-- The order of (value, number) pairs: by value, then by number. -/
def Le (p q : EReal × BitVec 32) : Prop := p.1 < q.1 ∨ (p.1 = q.1 ∧ p.2.toInt ≤ q.2.toInt)

/-- The order is reflexive -/
theorem Le.refl (p : EReal × BitVec 32) : Le p p := Or.inr ⟨rfl, le_rfl⟩

/-- and transitive. -/
theorem Le.trans {p q s : EReal × BitVec 32} : Le p q → Le q s → Le p s := by
  rintro (h | ⟨h, h'⟩) (k | ⟨k, k'⟩)
  · exact Or.inl (h.trans k)
  · exact Or.inl (k ▸ h)
  · exact Or.inl (h ▸ k)
  · exact Or.inr ⟨h.trans k, h'.trans k'⟩

/-- The arg-min's body picks one of two pairs, the lesser. -/
theorem body_spec (a b : EReal × BitVec 32) :
    (reducer_argmin_f32_i32 (F := Ideal) a b = a ∨ reducer_argmin_f32_i32 (F := Ideal) a b = b)
      ∧ Le (reducer_argmin_f32_i32 (F := Ideal) a b) a ∧ Le (reducer_argmin_f32_i32 (F := Ideal) a b) b := by
  obtain ⟨x, i⟩ := a
  obtain ⟨y, j⟩ := b
  have e : reducer_argmin_f32_i32 (F := Ideal) (x, i) (y, j)
      = if x < y then (x, i) else (y, if x = y ∧ i.toInt < j.toInt then i else j) := by
    unfold reducer_argmin_f32_i32
    simp only [Ideal.cmpf_def, Ideal.cmp, IntOp.cmpi, BitVec.slt_eq_decide, Scalar.select, IntOp.ori, IntOp.andi]
    by_cases h1 : x < y
    · simp [h1, h1.ne]
    · by_cases h2 : x = y
      · by_cases h3 : i.toInt < j.toInt <;> simp [h2, h3]
      · simp [h1, h2]
  rw [e]
  by_cases h1 : x < y
  · rw [if_pos h1]; exact ⟨Or.inl rfl, Le.refl _, Or.inl h1⟩
  · rw [if_neg h1]
    by_cases h2 : x = y ∧ i.toInt < j.toInt
    · rw [if_pos h2]
      obtain ⟨rfl, h3⟩ := h2
      exact ⟨Or.inl rfl, Le.refl _, Or.inr ⟨rfl, h3.le⟩⟩
    · rw [if_neg h2]
      refine ⟨Or.inr rfl, ?_, Le.refl _⟩
      rcases (not_lt.mp h1).lt_or_eq with h | h
      · exact Or.inl h
      · exact Or.inr ⟨h, not_lt.mp fun h' => h2 ⟨h.symm, h'⟩⟩

/-- A fold of it ends in the initial pair or a listed one, below them all. -/
theorem fold_spec (L : List (EReal × BitVec 32)) (p : EReal × BitVec 32) :
    (L.foldl (reducer_argmin_f32_i32 (F := Ideal)) p = p ∨ L.foldl (reducer_argmin_f32_i32 (F := Ideal)) p ∈ L)
      ∧ Le (L.foldl (reducer_argmin_f32_i32 (F := Ideal)) p) p
      ∧ ∀ q ∈ L, Le (L.foldl (reducer_argmin_f32_i32 (F := Ideal)) p) q := by
  induction L generalizing p with
  | nil => exact ⟨Or.inl rfl, Le.refl p, fun q hq => absurd hq List.not_mem_nil⟩
  | cons b L ih =>
    obtain ⟨hc, ha, hb⟩ := body_spec p b
    obtain ⟨i1, i2, i3⟩ := ih (reducer_argmin_f32_i32 (F := Ideal) p b)
    refine ⟨?_, i2.trans ha, fun q hq => ?_⟩
    · rcases i1 with h | h
      · rcases hc with h' | h'
        · exact Or.inl (h.trans h')
        · exact Or.inr (List.mem_cons.mpr (Or.inl (h.trans h')))
      · exact Or.inr (List.mem_cons_of_mem _ h)
    · rcases List.mem_cons.mp hq with rfl | h
      · exact i2.trans hb
      · exact i3 q h

/-- The pattern of +∞ is ⊤. -/
theorem top : Ideal.ofBits .f32 0x7F800000#32 = ⊤ := by simp [Ideal.ofBits, Ideal.ieee]

/-- Folded from (+∞, 0) over the pairs of a row's entries in any order, it ends in the first least entry's number. -/
theorem fold_first (d : Fin 1024 → EReal) (L : List (EReal × BitVec 32))
    (hmem : ∀ q, q ∈ L ↔ ∃ k : Fin 1024, q = (d k, BitVec.ofNat 32 k.val)) :
    (L.foldl (reducer_argmin_f32_i32 (F := Ideal)) (⊤, 0#32)).2 = BitVec.ofNat 32 (first d).val := by
  obtain ⟨hc, _, hle⟩ := fold_spec L (⊤, 0#32)
  have hle' : ∀ k : Fin 1024, Le (L.foldl (reducer_argmin_f32_i32 (F := Ideal)) (⊤, 0#32)) (d k, BitVec.ofNat 32 k.val) :=
    fun k => hle _ ((hmem _).mpr ⟨k, rfl⟩)
  -- the fold ends in the pair of some entry
  obtain ⟨i, hi⟩ : ∃ i : Fin 1024, L.foldl (reducer_argmin_f32_i32 (F := Ideal)) (⊤, 0#32) = (d i, BitVec.ofNat 32 i.val) := by
    rcases hc with h | h
    · refine ⟨0, ?_⟩
      have h0 := hle' 0
      rw [h] at h0 ⊢
      rcases h0 with h0 | h0
      · exact absurd h0 not_top_lt
      · exact Prod.ext h0.1 rfl
    · exact (hmem _).mp h
  rw [hi] at hle' ⊢
  -- that entry is the first least one
  have hf : IsFirst d i := fun k => by
    rcases hle' k with h | ⟨h, h'⟩
    · exact ⟨h.le, fun e => absurd e h.ne'⟩
    · refine ⟨h.le, fun _ => ?_⟩
      have h'' : (BitVec.ofNat 32 i.val).toInt ≤ (BitVec.ofNat 32 k.val).toInt := h'
      rw [toInt_word (by have := i.isLt; omega), toInt_word (by have := k.isLt; omega)] at h''
      exact Fin.le_def.mpr (by omega)
  rw [hf.unique (first_spec d)]

/-- The pairs the arg-min of a row runs over. -/
theorem mem_fiber {m n : ℕ} (x : (⟨2, ![m, n]⟩ : Shape).Idx → EReal) (h' : (⟨2, ![m, n]⟩ : Shape).ReducesTo [1] ⟨1, ![m]⟩)
    (hR : (⟨2, ![m, n]⟩ : Shape).Reduces [1] ⟨1, ![m]⟩) (r : Fin m) (q : EReal × BitVec 32) :
    q ∈ Host.argReduceFiber x (iotaInDim ⟨2, ![m, n]⟩ 32 1) h' (ix1 r) ↔ ∃ k : Fin n, q = (x (ix2 r k), BitVec.ofNat 32 k.val) := by
  unfold Host.argReduceFiber
  rw [List.mem_map]
  constructor
  · rintro ⟨i, hi, rfl⟩
    have hd := of_decide_eq_true (List.mem_filter.mp hi).2
    rw [Shape.ReducesTo.drop_eq_drop _ hR] at hd
    generalize (⟨2, ![m, n]⟩ : Shape).rowMajor.symm i = y at hd ⊢
    obtain ⟨a, b, rfl⟩ : ∃ (a : Fin m) (b : Fin n), y = ix2 a b := ⟨y 0, y 1, eq_ix2 y⟩
    have hl := hR.lift_drop (ix2 a b)
    rw [hd] at hl
    have hl' : ix2 r b = ix2 a b := (RefRows.lift_row hR r b).symm.trans hl
    have ha : r = a := congrFun hl' 0
    subst ha
    exact ⟨b, rfl⟩
  · rintro ⟨k, rfl⟩
    refine ⟨(⟨2, ![m, n]⟩ : Shape).rowMajor (ix2 r k), List.mem_filter.mpr ⟨List.mem_finRange _, decide_eq_true ?_⟩, ?_⟩
    · rw [Equiv.symm_apply_apply, Shape.ReducesTo.drop_eq_drop _ hR, ← RefRows.lift_row hR r k]
      exact hR.drop_lift _ _
    · rw [Equiv.symm_apply_apply]; rfl

/-- The arg-min of a row of a matrix of 1024 columns is the number of its first least entry. -/
theorem argmin_apply {m : ℕ} (x : FVec Ideal ⟨2, ![m, 1024]⟩ .f32) (h' : (⟨2, ![m, 1024]⟩ : Shape).ReducesTo [1] ⟨1, ![m]⟩)
    (hR : (⟨2, ![m, 1024]⟩ : Shape).Reduces [1] ⟨1, ![m]⟩) (hu : 0 < S_.numel) (r : Fin m) :
    Ref.argmin (F := Ideal) x (iotaInDim ⟨2, ![m, 1024]⟩ 32 1) (constant (F := Ideal) S_ .f32 0x7F800000#32)
      (constantI S_ 32 0#32) h' hu (ix1 r) = BitVec.ofNat 32 (first (at2 x r)).val := by
  unfold Ref.argmin
  rw [Ideal.argReduce_eq_reduce2, Host.reduce2_eq_foldl_fiber]
  have e : ((constant (F := Ideal) S_ .f32 0x7F800000#32 (Shape.Idx.first hu), constantI S_ 32 0#32 (Shape.Idx.first hu))
      : EReal × BitVec 32) = (⊤, 0#32) := Prod.ext top rfl
  rw [e]
  exact fold_first (at2 x r) _ (mem_fiber x h' hR r)

end Cert.Proof.RefArgmin
-- ==== Proof.RefLook.lean ====
/-
  The reference's arg-min and lookup on extended reals: the arg-min of a row is the number of its first least entry, and
  the lookup at that number is that row of the codebook.
-/
module

public import proofs.«01_k».proof.Proof.RefArgmin

@[expose] public section

set_option maxRecDepth 16384

noncomputable section

namespace Cert.Proof.RefLook

open scoped BigOperators
open Cert.ReferenceIdeal Cert.ReferenceIdeal.Gen
open Idealize.ShloMosaic Idealize.ShloMosaic.ValueIdx
open Cert.Proof.Math
open Cert.Proof.RefRows (at2 at1)

/-- The reference's arg-min of a row. -/
theorem nearest_apply (x : FVec Ideal S4096x1024 .f32) (r : Fin 4096) :
    Ref.nearest x (ix1 r) = BitVec.ofNat 32 (first (at2 x r)).val :=
  RefArgmin.argmin_apply (m := 4096) x _ (by decide) _ r

/-! ## The lookup -/

/-- A number below 1024 is read at itself. -/
theorem wrapped_apply (i : IVec S4096 32) (r : Fin 4096) (n : Fin 1024) (hi : i (ix1 r) = BitVec.ofNat 32 n.val) (j : Fin 1) :
    Ref.wrapped i (ix2 r j) = BitVec.ofNat 32 n.val := by
  refine (RefRows.asCol_apply _ _ r j).trans ?_
  show Scalar.select (IntOp.cmpi .slt (i (ix1 r)) (broadcastInDim S4096 ![] bcast_S_S4096 (constantI S_ 32 0#32) (ix1 r))) _ (i (ix1 r)) = _
  rw [broadcastInDim_scalar_apply, hi]
  show Scalar.select (IntOp.cmpi .slt (BitVec.ofNat 32 n.val) 0#32) _ _ = _
  have h : IntOp.cmpi .slt (BitVec.ofNat 32 n.val) 0#32 = 0#1 := by
    unfold IntOp.cmpi
    simp only [BitVec.slt_eq_decide]
    rw [toInt_word (by have := n.isLt; omega)]
    have : ¬ ((n.val : ℤ) < (0#32 : BitVec 32).toInt) := by
      have e : (0#32 : BitVec 32).toInt = 0 := by decide
      omega
    rw [decide_eq_false this]; rfl
  rw [h, select_zero]

/-- The conjunction of bits commutes -/
instance : Std.Commutative (IntOp.andi (w := 1)) := ⟨BitVec.and_comm⟩
/-- and associates. -/
instance : Std.Associative (IntOp.andi (w := 1)) := ⟨BitVec.and_assoc⟩

/-- It names a row of the table. -/
theorem inTable_apply (w : IVec S4096x1 32) (r : Fin 4096) (n : Fin 1024) (hw : w (ix2 r 0) = BitVec.ofNat 32 n.val) :
    Ref.inTable w (ix1 r) = 1#1 := by
  have hR : S4096x1.Reduces [1] S4096 := by decide
  unfold Ref.inTable
  rw [Host.reduce_eq_fold_single _ _ _ _ hR]
  have hb := n.isLt
  have h1 : IntOp.cmpi .sge (BitVec.ofNat 32 n.val) 0#32 = 1#1 := by
    unfold IntOp.cmpi
    simp only [BitVec.sle_eq_decide]
    have e : (0#32 : BitVec 32).toInt = 0 := by decide
    rw [decide_eq_true (by rw [e, toInt_word (by omega)]; omega)]; rfl
  have h2 : IntOp.cmpi .sle (BitVec.ofNat 32 n.val) 1023#32 = 1#1 := by
    unfold IntOp.cmpi
    simp only [BitVec.sle_eq_decide]
    have e : (1023#32 : BitVec 32).toInt = 1023 := by decide
    rw [decide_eq_true (by rw [e, toInt_word (by omega)]; omega)]; rfl
  have e : ((andi (cmpi .sge w (broadcastInDim S4096x1 ![] bcast_S_S4096x1 (constantI S_ 32 0#32)))
      (cmpi .sle w (broadcastInDim S4096x1 ![0, 1] bcast_S1x1_S4096x1_0_1
        (broadcastInDim S1x1 ![1] bcast_S1_S1x1_1 (constantI S1 32 1023#32))))) ∘ hR.lift (ix1 r)) = fun _ => 1#1 := by
    funext k
    have hk : hR.lift (ix1 r) k = ix2 r 0 :=
      (RefRows.lift_row (m := 4096) (n := 1) hR r k).trans (congrArg (fun t : Fin 1 => ix2 r t) (Subsingleton.elim (α := Fin 1) k 0))
    show IntOp.andi (IntOp.cmpi .sge (w (hR.lift (ix1 r) k)) 0#32) (IntOp.cmpi .sle (w (hR.lift (ix1 r) k)) 1023#32) = 1#1
    rw [hk, hw, h1, h2]; rfl
  rw [e]
  rfl

/-- The lookup at the number of a code is that code. -/
theorem take_apply (cb : FVec Ideal S1024x256 .f32) (i : IVec S4096 32) (r : Fin 4096) (n : Fin 1024)
    (hi : i (ix1 r) = BitVec.ofNat 32 n.val) (j : Fin 256) : Ref.take cb i (ix2 r j) = cb (ix2 n j) := by
  have hw : Ref.wrapped i (ix2 r (0 : Fin 1)) = BitVec.ofNat 32 n.val := wrapped_apply i r n hi 0
  show Scalar.select (broadcastInDim S4096x256 ![0] bcast_S4096_S4096x256_0 (Ref.inTable (Ref.wrapped i)) (ix2 r j))
    (Host.gather gather_S1024x256_S4096x1_S4096x256_1_0_n_n_0_1_1256 cb (Ref.wrapped i) (ix2 r j)) _ = _
  rw [show broadcastInDim S4096x256 ![0] bcast_S4096_S4096x256_0 (Ref.inTable (Ref.wrapped i)) (ix2 r j) = 1#1 from
    (RefRows.cols_apply _ _ r j).trans (inTable_apply _ r n hw), select_one]
  exact Routing.gather_row _ rfl rfl rfl rfl rfl cb (Ref.wrapped i) r j n hw (by norm_num)

/-- The nearest codes: row r of the lookup is the code nearest row r of z. -/
theorem look_apply (z : FVec Ideal S4096x256 .f32) (cb : FVec Ideal S1024x256 .f32) (r : Fin 4096) (j : Fin 256) :
    Ref.take cb (Ref.nearest (Ref.dist z cb)) (ix2 r j) = nearest (at2 cb) (at2 z r) j := by
  have e : at2 (Ref.dist z cb) r = sqDist (at2 cb) (at2 z r) := funext fun k => RefRows.dist_apply z cb r k
  rw [take_apply cb _ r _ (nearest_apply _ r) j, e]
  rfl

end Cert.Proof.RefLook
-- ==== Proof.RefSide.lean ====
/-
  The reference's three results as whole arrays: each row of z_e is the encoder's net of the row of x, each row of z_q the
  nearest code, and, of finite z_e and codes, each row of x_tilde the decoder's net of that code, for the straight-through
  sum z_e + (z_q − z_e) is then z_q.
-/
module

public import proofs.«01_k».proof.Proof.RefLook

@[expose] public section

set_option maxRecDepth 16384

noncomputable section

namespace Cert.Proof.RefSide

open Cert.ReferenceIdeal Cert.ReferenceIdeal.Gen
open Idealize.ShloMosaic Idealize.ShloMosaic.ValueIdx
open Cert.Proof.Math Cert.Proof.RefRows

/-- An array is the function of its entries. -/
theorem ext {m n : ℕ} (a : (⟨2, ![m, n]⟩ : Shape).Idx → EReal) (f : Fin m → Fin n → EReal) (h : ∀ r j, a (ix2 r j) = f r j) :
    a = fun i => f (i 0) (i 1) := funext fun i => by rw [eq_ix2 i]; exact h (i 0) (i 1)

/-- z_e. -/
theorem enc_eq (x : FVec Ideal S4096x1024 .f32) (W1 : FVec Ideal S1024x1024 .f32) (b1 : FVec Ideal S1024 .f32)
    (W2 : FVec Ideal S1024x1024 .f32) (b2 : FVec Ideal S1024 .f32) (W3 : FVec Ideal S1024x256 .f32) (b3 : FVec Ideal S256 .f32) :
    Ref.enc x W1 b1 W2 b2 W3 b3 = fun i => net (at2 W1) (at1 b1) (at2 W2) (at1 b2) (at2 W3) (at1 b3) (at2 x (i 0)) (i 1) :=
  ext _ (fun r => net (at2 W1) (at1 b1) (at2 W2) (at1 b2) (at2 W3) (at1 b3) (at2 x r)) fun r j => enc_apply x W1 b1 W2 b2 W3 b3 r j

/-- z_q, of z_e given by its rows. -/
theorem look_eq (z : FVec Ideal S4096x256 .f32) (cb : FVec Ideal S1024x256 .f32) (f : Fin 4096 → Fin 256 → EReal)
    (hz : z = fun i => f (i 0) (i 1)) : Ref.take cb (Ref.nearest (Ref.dist z cb)) = fun i => nearest (at2 cb) (f (i 0)) (i 1) :=
  ext _ (fun r => nearest (at2 cb) (f r)) fun r j => by
    rw [RefLook.look_apply, show at2 z r = f r from funext fun k => congrFun hz (ix2 r k)]

/-- x_tilde, of z_e and z_q given by their finite rows. -/
theorem dec_eq (z q : FVec Ideal S4096x256 .f32) (f g : Fin 4096 → Fin 256 → EReal) (hz : z = fun i => f (i 0) (i 1))
    (hq : q = fun i => g (i 0) (i 1)) (hf : ∀ r j, Real (f r j)) (hg : ∀ r j, Real (g r j))
    (W1 : FVec Ideal S256x1024 .f32) (b1 : FVec Ideal S1024 .f32) (W2 : FVec Ideal S1024x1024 .f32) (b2 : FVec Ideal S1024 .f32)
    (W3 : FVec Ideal S1024x1024 .f32) (b3 : FVec Ideal S1024 .f32) :
    Ref.dec (Ref.straight z q) W1 b1 W2 b2 W3 b3
      = fun i => net (at2 W1) (at1 b1) (at2 W2) (at1 b2) (at2 W3) (at1 b3) (g (i 0)) (i 1) :=
  ext _ (fun r => net (at2 W1) (at1 b1) (at2 W2) (at1 b2) (at2 W3) (at1 b3) (g r)) fun r j => by
    rw [dec_apply, show at2 (Ref.straight z q) r = g r from funext fun k => by
      show at2 z r k + (at2 q r k - at2 z r k) = g r k
      rw [show at2 z r k = f r k from congrFun hz (ix2 r k), show at2 q r k = g r k from congrFun hq (ix2 r k)]
      exact Math.straight (hf r k) (hg r k)]

end Cert.Proof.RefSide

end
-- ==== Proof.Finite.lean ====
/-
  What the precondition says: every entry of x, of the encoder's weights and biases and of the codebook is a real number.
-/
module

public import proofs.«01_k».proof.Pre_finite
public import proofs.«01_k».proof.Defs
public import proofs.«01_k».proof.Proof.Math
public import proofs.«01_k».proof.Proof.KInputs
public import Idealize.ShloMosaic.Lib.IdealHost

@[expose] public section

set_option maxRecDepth 16384

noncomputable section

namespace Cert.Proof.Finite

open Idealize.ShloMosaic Idealize.ShloMosaic.TcCoe Idealize.ShloMosaic.ValueIdx
open Cert.Proof.Math

/-- The side conditions of the precondition's operations. -/
theorem facts : Cert.Pre_finite.Facts where
  bcast_S_S4096x1024 := by decide
  bcast_S_S1024x1024 := by decide
  bcast_S_S1024 := by decide
  bcast_S_S1024x256 := by decide
  bcast_S_S256 := by decide

/-- The word of +∞. -/
theorem top : Ideal.ofBits .f32 0x7F800000#32 = ⊤ := by simp [Ideal.ofBits, Ideal.ieee]

/-- An array whose magnitudes all compare below +∞ is finite. -/
theorem real_of_ones {s : Shape} (x : FVec Ideal s .f32) (h : (⟨0, ![]⟩ : Shape).BroadcastsInDim s ![])
    (e : cmpf (F := Ideal) .olt (Host.absf x) (broadcastInDim s ![] h (constant (F := Ideal) ⟨0, ![]⟩ .f32 0x7F800000#32)) = fun _ => 1#1)
    (i : s.Idx) : Real (x i) := by
  have ei := congrFun e i
  refine real_of_abs_lt ?_
  have e' : Ideal.cmp .olt (max (x i) (-(x i))) (broadcastInDim s ![] h (constant (F := Ideal) ⟨0, ![]⟩ .f32 0x7F800000#32) i) = 1#1 := ei
  rw [broadcastInDim_scalar_apply] at e'
  change Ideal.cmp .olt (max (x i) (-(x i))) (Ideal.ofBits .f32 0x7F800000#32) = 1#1 at e'
  rw [top] at e'
  by_contra hn
  simp [Ideal.cmp, hn] at e'

/-- The precondition's arrays are finite: x, the encoder's six arrays and the codebook. -/
theorem of_pre (m : (ℓ : Loc Cert.KernelIdeal.nD Cert.KernelIdeal.τ Cert.KernelIdeal.sig) → Buf (Elt Ideal) ℓ)
    (h : Cert.Pre_KernelIdeal_finite (hPre_finite := facts) m) (c : Dev Cert.KernelIdeal.nD) :
    (∀ i, Real (KInputs.x m c i)) ∧ (∀ i, Real (KInputs.We1 m c i)) ∧ (∀ i, Real (KInputs.be1 m c i)) ∧ (∀ i, Real (KInputs.We2 m c i))
      ∧ (∀ i, Real (KInputs.be2 m c i)) ∧ (∀ i, Real (KInputs.We3 m c i)) ∧ (∀ i, Real (KInputs.be3 m c i)) ∧ (∀ i, Real (KInputs.cb m c i)) := by
  obtain ⟨e0, e1, e2, e3, e4, e5, e6, e7⟩ := h c
  exact ⟨real_of_ones _ _ e0, real_of_ones _ _ e1, real_of_ones _ _ e2, real_of_ones _ _ e3, real_of_ones _ _ e4,
    real_of_ones _ _ e5, real_of_ones _ _ e6, real_of_ones _ _ e7⟩

end Cert.Proof.Finite

end
-- ==== Proof.Equation.lean ====
/-
  The kernel and the reference return the same three arrays on extended reals, of finite x, encoder and codebook.
-/
module

public import proofs.«01_k».proof.Proof.KArrays
public import proofs.«01_k».proof.Proof.RefSide
public import proofs.«01_k».proof.Proof.Finite

@[expose] public section

set_option maxRecDepth 16384

noncomputable section

namespace Cert.Proof.Equation

open Cert.KernelIdeal
open Idealize.ShloMosaic Idealize.ShloMosaic.TcCoe Idealize.ShloMosaic.ValueIdx Idealize.SL.Sem
open Cert.Proof.Math Cert.Proof.KInputs Cert.Proof.KRows

variable (m : (ℓ : Loc nD τ sig) → Buf (Elt Ideal) ℓ) (c : Dev nD)

/-- The reference's z_e of the kernel's arguments. -/
def Z : FVec Ideal S4096x256 .f32 := Ref.enc (F := Ideal) (x m c) (We1 m c) (be1 m c) (We2 m c) (be2 m c) (We3 m c) (be3 m c)

/-- Its z_q. -/
def K : FVec Ideal S4096x256 .f32 := Ref.take (F := Ideal) (cb m c) (Ref.nearest (Ref.dist (Z m c) (cb m c)))

/-- Its x_tilde. -/
def X : FVec Ideal S4096x1024 .f32 :=
  Ref.dec (F := Ideal) (Ref.straight (Z m c) (K m c)) (Wd1 m c) (bd1 m c) (Wd2 m c) (bd2 m c) (Wd3 m c) (bd3 m c)

/-- z_e is the kernel's. -/
theorem Z_eq : Z m c = KArrays.zeA m c := RefSide.enc_eq _ _ _ _ _ _ _

/-- z_q is the kernel's. -/
theorem K_eq : K m c = KArrays.zqA m c := RefSide.look_eq (Z m c) (cb m c) (zRow m c) (Z_eq m c)

/-- x_tilde is the kernel's, of finite arguments. -/
theorem X_eq (h : Cert.Pre_KernelIdeal_finite (hPre_finite := Finite.facts) m) : X m c = KArrays.xtA m c := by
  obtain ⟨h0, h1, h2, h3, h4, h5, h6, h7⟩ := Finite.of_pre m h c
  exact RefSide.dec_eq (Z m c) (K m c) (zRow m c) (qRow m c) (Z_eq m c) (K_eq m c)
    (fun r => Real.net (fun _ _ => h1 _) (fun _ => h2 _) (fun _ _ => h3 _) (fun _ => h4 _) (fun _ _ => h5 _) (fun _ => h6 _) fun _ => h0 _)
    (fun _ _ => h7 _) _ _ _ _ _ _

end Cert.Proof.Equation

end
-- ==== Proof.lean ====
/-
  The proof of the certificate's claims: the frames of the kernel, of the kernel read at the extended reals and of the reference,
  and that on the extended reals the kernel and the reference return the same three arrays.
-/
module

public import proofs.«01_k».proof.Defs
public import proofs.«01_k».proof.Proof.Gen.Kernel
public import proofs.«01_k».proof.Proof.KRun
public import proofs.«01_k».proof.Proof.Run
public import proofs.«01_k».proof.Proof.Ref
public import proofs.«01_k».proof.Proof.Equation

@[expose] public section

noncomputable section

namespace Cert.Proof

open Idealize.ShloMosaic Idealize.SL.Sem

/-- The kernel's frame. -/
theorem frame_kernel : Cert.quiescent_Kernel (hKernel := Cert.Kernel.Gen.facts) := fun m ρ _ => KRun.frame m ρ

/-- The frame of the kernel read at the extended reals. -/
theorem frame_ideal : Cert.quiescent_KernelIdeal (hKernelIdeal := Cert.KernelIdeal.Gen.facts) := fun m ρ _ => Run.frame m ρ

/-- The reference's frame; it declares no semaphore. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (Ref.run_main m ρ)

/-- The frame under the precondition. -/
theorem frame_ideal_finite : Cert.quiescent_KernelIdeal_pre_finite (hKernelIdeal := Cert.KernelIdeal.Gen.facts) (hPre_finite := Finite.facts) :=
  fun m ρ _ => Run.frame m ρ

/-- The reference's frame under the precondition. -/
theorem frame_ref_finite : Cert.quiescent_ReferenceIdeal_pre_finite (hReferenceIdeal := Cert.ReferenceIdeal.Gen.facts) (hPre_finite := Finite.facts) :=
  fun m ρ _ => frame_ref m ρ trivial

/-- The kernel and the reference return the same x_tilde, z_e and z_q on the extended reals. -/
theorem equal : Cert.algebraic_KernelIdeal_ReferenceIdeal_pre_finite (hKernelIdeal := Cert.KernelIdeal.Gen.facts)
    (hReferenceIdeal := Cert.ReferenceIdeal.Gen.facts) (hPre_finite := Finite.facts) := by
  intro m ρ m' ρ' hfin hargs
  refine ⟨KArrays.xtA m, KArrays.zeA m, KArrays.zqA m, ?_, ?_⟩
  · refine (θ_run Cert.KernelIdeal.defs _ _).mono (fun r h c => ?_) (θ_run_and
      (KArrays.run m ρ fun c k d => (Finite.of_pre m hfin c).2.2.2.2.2.2.2 _) (Run.unchanged m ρ))
    exact ⟨(h.1 c).1, (h.1 c).2.1, (h.1 c).2.2, h.2 c⟩
  · refine (θ_run Cert.ReferenceIdeal.defs _ _).mono (fun r h c => ?_) (Ref.run_main m' ρ')
    obtain ⟨h0, h1, h2, h3, h4, h5, h6, h7, h8, h9, h10, h11, h12, h13⟩ := hargs c
    obtain ⟨⟨hx, hz, hk⟩, hkept⟩ := h c
    rw [h0, h1, h2, h3, h4, h5, h6, h7, h8, h9, h10, h11, h12, h13] at hx
    rw [h0, h1, h2, h3, h4, h5, h6] at hz
    rw [h0, h1, h2, h3, h4, h5, h6, h13] at hk
    exact ⟨hx.trans (Equation.X_eq m c hfin), hz.trans (Equation.Z_eq m c), hk.trans (Equation.K_eq m c), hkept⟩

/-- All the claims. -/
theorem claim : Cert.Claim :=
  ⟨Cert.Kernel.Gen.facts, Cert.KernelIdeal.Gen.facts, Cert.ReferenceIdeal.Gen.facts, Finite.facts, frame_kernel, frame_ideal,
    frame_ideal_finite, frame_ref, frame_ref_finite, trivial, equal⟩

end Cert.Proof

end
